-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1x128x128 : Shape := ⟨3, ![1, 128, 128]⟩
abbrev S1 : Shape := ⟨1, ![1]⟩

class Facts : Prop where
  bcast_S_S1x10000x128 : S_.BroadcastsInDim S1x10000x128 (![] : Fin 0 → Fin S1x10000x128.rank)
  bcast_S_S1x10000x10000 : S_.BroadcastsInDim S1x10000x10000 (![] : Fin 0 → Fin S1x10000x10000.rank)
  bcast_S_S128x128 : S_.BroadcastsInDim S128x128 (![] : Fin 0 → Fin S128x128.rank)
  bcast_S_S128 : S_.BroadcastsInDim S128 (![] : Fin 0 → Fin S128.rank)
  bcast_S_S1x128x128 : S_.BroadcastsInDim S1x128x128 (![] : Fin 0 → Fin S1x128x128.rank)

variable [Facts]

def fn_part1 {F : FTy → Type} [FloatOps F] (main_v2 : IVec S1x10000x128 1) (main_v5 : IVec S1x10000x128 1) (main_v8 : IVec S1x10000x10000 1) (main_v11 : IVec S128x128 1) (main_v14 : IVec S128 1) (main_v16 : IVec S_ 1) (main_v17 : FVec F S1x128x128 .f32) : IVec S1x10000x128 1 × IVec S1x10000x128 1 × IVec S1x10000x10000 1 × IVec S128x128 1 × IVec S128 1 × IVec S_ 1 × IVec S1x128x128 1 :=
  let main_cst_5 : FVec F S_ .f32 := constant S_ .f32 0x7F800000#32
  let main_v18 : FVec F S1x128x128 .f32 := broadcastInDim S1x128x128 ![] bcast_S_S1x128x128 main_cst_5
  let main_v19 : IVec S1x128x128 1 := cmpf .olt main_v17 main_v18
  (main_v2, main_v5, main_v8, main_v11, main_v14, main_v16, main_v19)

def fn {F : FTy → Type} [FloatOps F] (main_arg0 : FVec F S1x10000x128 .f32) (main_arg1 : FVec F S1x10000x128 .f32) (main_arg2 : FVec F S1x10000x10000 .f32) (main_arg3 : IVec S_ 32) (main_arg4 : FVec F S1x10000 .f32) (main_arg5 : FVec F S1x10000 .f32) (main_arg6 : FVec F S1x10000 .f32) (main_arg7 : FVec F S128x128 .f32) (main_arg8 : FVec F S128 .f32) (main_arg9 : FVec F S_ .f32) (main_arg10 : FVec F S1x128x128 .f32) (main_arg11 : FVec F S1 .f32) : IVec S1x10000x128 1 × IVec S1x10000x128 1 × IVec S1x10000x10000 1 × IVec S128x128 1 × IVec S128 1 × IVec S_ 1 × IVec S1x128x128 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_v3 : FVec F S1x10000x128 .f32 := Host.absf main_arg1
  let main_cst_0 : FVec F S_ .f32 := constant S_ .f32 0x7F800000#32
  let main_v4 : FVec F S1x10000x128 .f32 := broadcastInDim S1x10000x128 ![] bcast_S_S1x10000x128 main_cst_0
  let main_v5 : IVec S1x10000x128 1 := cmpf .olt main_v3 main_v4
  let main_v6 : FVec F S1x10000x10000 .f32 := Host.absf main_arg2
  let main_cst_1 : FVec F S_ .f32 := constant S_ .f32 0x7F800000#32
  let main_v7 : FVec F S1x10000x10000 .f32 := broadcastInDim S1x10000x10000 ![] bcast_S_S1x10000x10000 main_cst_1
  let main_v8 : IVec S1x10000x10000 1 := cmpf .olt main_v6 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg8
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S_ .f32 := Host.absf main_arg9
  let main_cst_4 : FVec F S_ .f32 := constant S_ .f32 0x7F800000#32
  let main_v16 : IVec S_ 1 := cmpf .olt main_v15 main_cst_4
  let main_v17 : FVec F S1x128x128 .f32 := Host.absf main_arg10
  fn_part1 (F := F) main_v2 main_v5 main_v8 main_v11 main_v14 main_v16 main_v17
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1x128x128 : Shape := ⟨3, ![1, 128, 128]⟩
abbrev S1 : Shape := ⟨1, ![1]⟩
abbrev S10000x128 : Shape := ⟨2, ![10000, 128]⟩
abbrev S10000x10000 : Shape := ⟨2, ![10000, 10000]⟩
abbrev S256 : Shape := ⟨1, ![256]⟩
abbrev S1x256 : Shape := ⟨2, ![1, 256]⟩
abbrev S1x1 : Shape := ⟨2, ![1, 1]⟩
abbrev S10000x1 : Shape := ⟨2, ![10000, 1]⟩
abbrev S2x10000 : Shape := ⟨2, ![2, 10000]⟩
abbrev S400x10000 : Shape := ⟨2, ![400, 10000]⟩
abbrev S400x1 : Shape := ⟨2, ![400, 1]⟩
abbrev S10000x256 : Shape := ⟨2, ![10000, 256]⟩
abbrev S1x128 : Shape := ⟨2, ![1, 128]⟩
abbrev S400x256 : Shape := ⟨2, ![400, 256]⟩
abbrev S400x128 : Shape := ⟨2, ![400, 128]⟩
abbrev S1x400x1 : Shape := ⟨3, ![1, 400, 1]⟩
abbrev S1x1x1 : Shape := ⟨3, ![1, 1, 1]⟩
abbrev S2x256 : Shape := ⟨2, ![2, 256]⟩
abbrev S1x20000 : Shape := ⟨2, ![1, 20000]⟩

abbrev nBuf : Space → Nat
  | .hbm => 26
  | .vmem => 16
  | .smem => 1
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1x128x128, .f32⟩
  | .hbm, ⟨11, _⟩ => ⟨S1, .f32⟩
  | .hbm, ⟨12, _⟩ => ⟨S10000x128, .f32⟩
  | .hbm, ⟨13, _⟩ => ⟨S10000x128, .f32⟩
  | .hbm, ⟨14, _⟩ => ⟨S10000x10000, .f32⟩
  | .hbm, ⟨15, _⟩ => ⟨S128x128, .f32⟩
  | .hbm, ⟨16, _⟩ => ⟨S256, .f32⟩
  | .hbm, ⟨17, _⟩ => ⟨S1x256, .f32⟩
  | .hbm, ⟨18, _⟩ => ⟨S1x1, .f32⟩
  | .hbm, ⟨19, _⟩ => ⟨S10000x1, .f32⟩
  | .hbm, ⟨20, _⟩ => ⟨S128x128, .f32⟩
  | .hbm, ⟨21, _⟩ => ⟨S128x128, .f32⟩
  | .hbm, ⟨22, _⟩ => ⟨S1x1, .f32⟩
  | .hbm, ⟨23, _⟩ => ⟨S2x10000, .f32⟩
  | .hbm, ⟨24, _⟩ => ⟨S2x10000, .f32⟩
  | .hbm, ⟨25, _⟩ => ⟨S1x20000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x256, .f32⟩
  | .local _ .vmem, ⟨6, _⟩ => ⟨S1x1, .f32⟩
  | .local _ .vmem, ⟨7, _⟩ => ⟨S400x1, .f32⟩
  | .local _ .vmem, ⟨8, _⟩ => ⟨S400x1, .f32⟩
  | .local _ .vmem, ⟨9, _⟩ => ⟨S128x128, .f32⟩
  | .local _ .vmem, ⟨10, _⟩ => ⟨S1x1, .f32⟩
  | .local _ .vmem, ⟨11, _⟩ => ⟨S2x10000, .f32⟩
  | .local _ .vmem, ⟨12, _⟩ => ⟨S2x10000, .f32⟩
  | .local _ .vmem, ⟨13, _⟩ => ⟨S10000x256, .bf16⟩
  | .local _ .vmem, ⟨14, _⟩ => ⟨S10000x256, .bf16⟩
  | .local _ .vmem, ⟨15, _⟩ => ⟨S1x128, .f32⟩
  | .local _ .smem, ⟨0, _⟩ => ⟨S1x1, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_9 : Index := 0#32
  ![v21.toNat, 0]
def k0_cond4 (i : grid0.Coords) : BitVec 1 :=
  let arg0 : BitVec 32 := BitVec.ofNat 32 (i 0).val
  let c24_i32 : BitVec 32 := 24#32
  let v39 : BitVec 1 := Scalar.cmpi .eq arg0 c24_i32
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x10000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x10000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1x128x128 : Shape := ⟨3, ![1, 128, 128]⟩
abbrev S1 : Shape := ⟨1, ![1]⟩
abbrev S1x1x128 : Shape := ⟨3, ![1, 1, 128]⟩
abbrev S1x10000x1 : Shape := ⟨3, ![1, 10000, 1]⟩
abbrev S1x128 : Shape := ⟨2, ![1, 128]⟩
abbrev S128x1x10000 : Shape := ⟨3, ![128, 1, 10000]⟩
abbrev S1x20000 : Shape := ⟨2, ![1, 20000]⟩

abbrev nBuf : Space → Nat
  | .hbm => 68
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1x128x128, .f32⟩
  | .hbm, ⟨11, _⟩ => ⟨S1, .f32⟩
  | .hbm, ⟨12, _⟩ => ⟨S1x10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .i1⟩
  | .hbm, ⟨20, _⟩ => ⟨S1x10000x128, .f32⟩
  | .hbm, ⟨21, _⟩ => ⟨S1x10000x128, .f32⟩
  | .hbm, ⟨22, _⟩ => ⟨S1x10000x128, .f32⟩
  | .hbm, ⟨23, _⟩ => ⟨S1x10000x1, .f32⟩
  | .hbm, ⟨24, _⟩ => ⟨S1x10000x128, .f32⟩
  | .hbm, ⟨25, _⟩ => ⟨S1x10000x128, .f32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x10000x128, .f32⟩
  | .hbm, ⟨41, _⟩ => ⟨S1x10000x128, .f32⟩
  | .hbm, ⟨42, _⟩ => ⟨S1x1x128, .f32⟩
  | .hbm, ⟨43, _⟩ => ⟨S1x10000x128, .f32⟩
  | .hbm, ⟨44, _⟩ => ⟨S1x10000x128, .f32⟩
  | .hbm, ⟨45, _⟩ => ⟨S_, .f32⟩
  | .hbm, ⟨46, _⟩ => ⟨S1x10000x128, .f32⟩
  | .hbm, ⟨47, _⟩ => ⟨S1x10000x128, .i1⟩
  | .hbm, ⟨48, _⟩ => ⟨S1x10000x128, .f32⟩
  | .hbm, ⟨49, _⟩ => ⟨S1x10000x128, .f32⟩
  | .hbm, ⟨50, _⟩ => ⟨S1x10000x128, .f32⟩
  | .hbm, ⟨51, _⟩ => ⟨S1x1x128, .f32⟩
  | .hbm, ⟨52, _⟩ => ⟨S1x10000x128, .f32⟩
  | .hbm, ⟨53, _⟩ => ⟨S128x128, .f32⟩
  | .hbm, ⟨54, _⟩ => ⟨S128x1x10000, .f32⟩
  | .hbm, ⟨55, _⟩ => ⟨S1x10000, .f32⟩
  | .hbm, ⟨56, _⟩ => ⟨S_, .f32⟩
  | .hbm, ⟨57, _⟩ => ⟨S1x10000, .f32⟩
  | .hbm, ⟨58, _⟩ => ⟨S1x10000, .f32⟩
  | .hbm, ⟨59, _⟩ => ⟨S128x128, .f32⟩
  | .hbm, ⟨60, _⟩ => ⟨S128x1x10000, .f32⟩
  | .hbm, ⟨61, _⟩ => ⟨S1x10000, .f32⟩
  | .hbm, ⟨62, _⟩ => ⟨S_, .f32⟩
  | .hbm, ⟨63, _⟩ => ⟨S1x10000, .f32⟩
  | .hbm, ⟨64, _⟩ => ⟨S1x10000, .f32⟩
  | .hbm, ⟨65, _⟩ => ⟨S1x10000, .f32⟩
  | .hbm, ⟨66, _⟩ => ⟨S1x10000, .f32⟩
  | .hbm, ⟨67, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Points.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! # The points of the grid and the buffers the body is given

The body branches on its point three ways: the first point fills the feature buffer and starts the two sums, the later
points add to the sums, the last point scores every node. -/

/-- The body's test for the first point. -/
abbrev IsFirst (i : grid0.Coords) : Prop :=
  Scalar.cmpi .ne (Scalar.extui (Scalar.cmpi .eq (BitVec.ofNat 32 (i 0).val) 0#32)) 0#32 = 1#1
/-- The body's test for a point after the first. -/
abbrev IsLater (i : grid0.Coords) : Prop :=
  Scalar.cmpi .ne (Scalar.extui (Scalar.cmpi .ne (BitVec.ofNat 32 (i 0).val) 0#32)) 0#32 = 1#1
/-- The body's test for the last point. -/
abbrev IsLast (i : grid0.Coords) : Prop := k0_cond4 i = 1#1

/-- There are 25 points. -/
theorem lt25 (t : Fin cfg0.N) : t.val < 25 := Nat.lt_of_lt_of_eq t.isLt N_0

/-- The grid has one axis: a point's coordinate is its number. -/
theorem coord_eq (t : Fin cfg0.N) : (grid0.coords t 0).val = t.val := by
  have h : (grid0.coords t 0).val = t.val / 1 % 25 := Pipeline.Grid.coords_val t 0 (by decide) rfl
  have := lt25 t
  omega

/-- The first test holds at point 0 only. -/
theorem isFirst_iff (t : Fin cfg0.N) : IsFirst (grid0.coords t) ↔ t.val = 0 := by
  have ht := lt25 t
  simp only [IsFirst, coord_eq]
  word_cmp

/-- The second test holds at every point but 0. -/
theorem isLater_iff (t : Fin cfg0.N) : IsLater (grid0.coords t) ↔ 1 ≤ t.val := by
  have ht := lt25 t
  simp only [IsLater, coord_eq]
  word_cmp

/-- The third test holds at point 24 only. -/
theorem isLast_iff (t : Fin cfg0.N) : IsLast (grid0.coords t) ↔ t.val = 24 := by
  have ht := lt25 t
  simp only [IsLast, k0_cond4, coord_eq]
  word_cmp

/-- The row block a point fills starts at 400 times the point. -/
theorem off_eq (t : Fin cfg0.N) : k0_off1 (grid0.coords t) = ![400 * t.val, 0] := by
  have key : ∀ n : Fin 25, (Scalar.indexCast (Scalar.muli (BitVec.ofNat 32 n.val) 400#32)).toNat = 400 * n.val := by
    decide
  have h := key ⟨t.val, lt25 t⟩
  unfold k0_off1
  rw [coord_eq]
  dsimp only at h ⊢
  rw [h]

/-- Window 0's staging buffer at a point, and that it is a whole buffer. -/
abbrev st0 (t : Fin cfg0.N) : Memref sig .tc .vmem S400x10000 .f32 := win0_0.stage (cfg0.slots t 0)
/-- The buffer of window 0 is a whole buffer. -/
theorem hst0 (t : Fin cfg0.N) : (st0 t).IsWhole := hstage0_0 ((cfg0.slots t 0).cast nbuf0_0)
/-- Window 1's staging buffer at a point, and that it is a whole buffer. -/
abbrev st1 (t : Fin cfg0.N) : Memref sig .tc .vmem S10000x128 .f32 := win0_1.stage (cfg0.slots t 1)
/-- The buffer of window 1 is a whole buffer. -/
theorem hst1 (t : Fin cfg0.N) : (st1 t).IsWhole := hstage0_1 ((cfg0.slots t 1).cast nbuf0_1)
/-- Window 2's staging buffer at a point, and that it is a whole buffer. -/
abbrev st2 (t : Fin cfg0.N) : Memref sig .tc .vmem S10000x128 .f32 := win0_2.stage (cfg0.slots t 2)
/-- The buffer of window 2 is a whole buffer. -/
theorem hst2 (t : Fin cfg0.N) : (st2 t).IsWhole := hstage0_2 ((cfg0.slots t 2).cast nbuf0_2)
/-- Window 3's staging buffer at a point, and that it is a whole buffer. -/
abbrev st3 (t : Fin cfg0.N) : Memref sig .tc .vmem S128x128 .f32 := win0_3.stage (cfg0.slots t 3)
/-- The buffer of window 3 is a whole buffer. -/
theorem hst3 (t : Fin cfg0.N) : (st3 t).IsWhole := hstage0_3 ((cfg0.slots t 3).cast nbuf0_3)
/-- Window 4's staging buffer at a point, and that it is a whole buffer. -/
abbrev st4 (t : Fin cfg0.N) : Memref sig .tc .vmem S1x256 .f32 := win0_4.stage (cfg0.slots t 4)
/-- The buffer of window 4 is a whole buffer. -/
theorem hst4 (t : Fin cfg0.N) : (st4 t).IsWhole := hstage0_4 ((cfg0.slots t 4).cast nbuf0_4)
/-- Window 5's staging buffer at a point, and that it is a whole buffer. -/
abbrev st5 (t : Fin cfg0.N) : Memref sig .tc .vmem S1x1 .f32 := win0_5.stage (cfg0.slots t 5)
/-- The buffer of window 5 is a whole buffer. -/
theorem hst5 (t : Fin cfg0.N) : (st5 t).IsWhole := hstage0_5 ((cfg0.slots t 5).cast nbuf0_5)
/-- Window 6's staging buffer at a point, and that it is a whole buffer. -/
abbrev st6 (t : Fin cfg0.N) : Memref sig .tc .vmem S400x1 .f32 := win0_6.stage (cfg0.slots t 6)
/-- The buffer of window 6 is a whole buffer. -/
theorem hst6 (t : Fin cfg0.N) : (st6 t).IsWhole := hstage0_6 ((cfg0.slots t 6).cast nbuf0_6)
/-- Window 7's staging buffer at a point, and that it is a whole buffer. -/
abbrev st7 (t : Fin cfg0.N) : Memref sig .tc .vmem S128x128 .f32 := win0_7.stage (cfg0.slots t 7)
/-- The buffer of window 7 is a whole buffer. -/
theorem hst7 (t : Fin cfg0.N) : (st7 t).IsWhole := hstage0_7 ((cfg0.slots t 7).cast nbuf0_7)
/-- Window 8's staging buffer at a point, and that it is a whole buffer. -/
abbrev st8 (t : Fin cfg0.N) : Memref sig .tc .vmem S1x1 .f32 := win0_8.stage (cfg0.slots t 8)
/-- The buffer of window 8 is a whole buffer. -/
theorem hst8 (t : Fin cfg0.N) : (st8 t).IsWhole := hstage0_8 ((cfg0.slots t 8).cast nbuf0_8)
/-- Window 9's staging buffer at a point, and that it is a whole buffer. -/
abbrev st9 (t : Fin cfg0.N) : Memref sig .tc .vmem S2x10000 .f32 := win0_9.stage (cfg0.slots t 9)
/-- The buffer of window 9 is a whole buffer. -/
theorem hst9 (t : Fin cfg0.N) : (st9 t).IsWhole := hstage0_9 ((cfg0.slots t 9).cast nbuf0_9)
/-- Window 10's staging buffer at a point, and that it is a whole buffer. -/
abbrev st10 (t : Fin cfg0.N) : Memref sig .tc .vmem S2x10000 .f32 := win0_10.stage (cfg0.slots t 10)
/-- The buffer of window 10 is a whole buffer. -/
theorem hst10 (t : Fin cfg0.N) : (st10 t).IsWhole := hstage0_10 ((cfg0.slots t 10).cast nbuf0_10)
/-- Scratch buffer 0 of the body. -/
abbrev sc0 : Memref sig .tc .vmem S10000x256 .bf16 := Memref.whole cc0_scratch0
/-- Scratch buffer 1 of the body. -/
abbrev sc1 : Memref sig .tc .vmem S10000x256 .bf16 := Memref.whole cc0_scratch1
/-- Scratch buffer 2 of the body. -/
abbrev sc2 : Memref sig .tc .vmem S1x128 .f32 := Memref.whole cc0_scratch2
/-- Scratch buffer 3 of the body. -/
abbrev sc3 : Memref sig .tc .smem S1x1 .f32 := Memref.whole cc0_scratch3

/-- What the region starts with, buffer by buffer: the four scratches at some contents and the generator register. -/
theorem start_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d))
          ∗ (∃ r, prngReg c r)) := by
  unfold Pipeline.ΦA
  rw [scopedRest0_eq]
  simp only [sc0, sc1, sc2, sc3, owns_whole]
  try rfl

end Cert.Hand

end
-- ==== Proof.Values.lean ====
module

public import proofs.«01_k».proof.Proof.Points
public import Idealize.ShloMosaic.Lib.VecWindow
public import Idealize.ShloMosaic.Lib.WritesUnit
public import Idealize.ShloMosaic.Lib.ValueIdxCore

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! # What the body computes, from the contents it finds -/

/-- The place of a left-half index in the left block. -/
def inLeft (y : S10000x256.Idx) (h : (y 1).val < 128) : S10000x128.Idx :=
  ix2 (n0 := 10000) (n1 := 128) (y 0) ⟨(y 1).val, h⟩
/-- The place of a right-half index in the right block. -/
def inRight (y : S10000x256.Idx) : S10000x128.Idx :=
  ix2 (n0 := 10000) (n1 := 128) (y 0) ⟨(y 1).val - 128, by have := idx2_lt1 y; omega⟩

/-- Two blocks of 128 columns side by side. -/
def halves (P Q : Vec F S10000x128 .bf16) : Vec F S10000x256 .bf16 :=
  fun y => if h : (y 1).val < 128 then P (inLeft y h) else Q (inRight y)

/-- The feature buffer the first point fills: the first 128 columns are the first features times the weights, the last 128
    the second features times the weights. -/
def feat (x1 x2 : Vec F S10000x128 .f32) (x3 : Vec F S128x128 .f32) : Vec F S10000x256 .bf16 :=
  halves (k0_pay5 x3 x1) (k0_pay6 x3 x2)

/-- The embedding buffer `X` with the point's row block put in. -/
def putRows (i : grid0.Coords) (X : Vec F S10000x256 .bf16) (x0 : Vec F S400x10000 .f32) (x11 : Vec F S10000x256 .bf16)
    (x4 : Vec F S1x256 .f32) (x5 : Vec F S1x1 .f32) : Vec F S10000x256 .bf16 :=
  VecWindow.put X (k0_off1 i) S400x256.size (k0_pay8 x0 x11 x4 x5)

/-- The number a one-element buffer holds. -/
abbrev theOne (x : Vec F S1x1 .f32) : Elt F .f32 := x (ix2 0 0)

/-- Two stores, of the left and of the right half of the columns, leave the two blocks side by side, whatever was there. -/
theorem read_halves (v : View sig .tc .vmem S10000x256 .bf16) (f : v.ty.Contents (Elt F))
    (P Q : Vec F S10000x128 .bf16) (inb1) (inb2) :
    v.read (Elt F) (v.writes (Elt F) f
      [⟨Rect.unit (s := S10000x256) ![0, 128] S10000x128.size inb2, Q⟩,
       ⟨Rect.unit (s := S10000x256) ![0, 0] S10000x128.size inb1, P⟩]) = halves P Q := by
  funext y
  have hy : (y 1).val < 256 := idx2_lt1 y
  by_cases h : (y 1).val < 128
  · have hx : ∀ a : Fin 2, (y a).val = (![0, 0] : Fin 2 → ℕ) a + (inLeft y h a).val :=
      Fin.forall_fin_two.mpr ⟨(Nat.zero_add _).symm, (Nat.zero_add _).symm⟩
    refine (View.read_writes_cons_unit_of_not_mem v f _ _ _ y (off' := ![0, 128]) rfl (1 : Fin 2) (Or.inl h)).trans ?_
    refine (View.read_writes_cons_unit_of_mem v f _ _ _ y (inLeft y h) (off' := ![0, 0]) rfl hx).trans ?_
    simp only [halves, dif_pos h]
  · have h128 : (y 1).val = 128 + ((y 1).val - 128) := by omega
    have hx : ∀ a : Fin 2, (y a).val = (![0, 128] : Fin 2 → ℕ) a + (inRight y a).val :=
      Fin.forall_fin_two.mpr ⟨(Nat.zero_add _).symm, h128⟩
    refine (View.read_writes_cons_unit_of_mem v f _ _ _ y (inRight y) (off' := ![0, 128]) rfl hx).trans ?_
    simp only [halves, dif_neg h, not_false_eq_true]

/-- Storing a 400-row block in a whole buffer that holds `X` leaves `X` with those rows put in. -/
theorem put_rows {r : Memref sig .tc .vmem S10000x256 .bf16} (h : r.IsWhole) (X : Vec F S10000x256 .bf16) (i : grid0.Coords)
    (inb : ∀ a, k0_off1 i a + S400x256.size a ≤ S10000x256.size a) {w w' : Vec F S400x256 .bf16} (e : w = w') :
    r.view.read (Elt F) (r.view.writes (Elt F) (h.unread X) [⟨Rect.unit (k0_off1 i) S400x256.size inb, w⟩]) =
      VecWindow.put X (k0_off1 i) S400x256.size w' := by
  rw [View.read_writes_cons_put _ _ _ _ _ rfl, View.writes_nil, h.read_unread, e]

/-- Two indices of a one-element buffer are the same. -/
theorem one_idx (a b : S1x1.Idx) : a = b :=
  funext (Fin.forall_fin_two.mpr ⟨Subsingleton.elim (α := Fin 1) _ _, Subsingleton.elim (α := Fin 1) _ _⟩)

/-- A load of all of a whole buffer that holds `x` reads `x`. -/
theorem load_all {sp : Space} {s : Shape} {e : EltTy} {r : Memref sig .tc sp s e} (h : r.IsWhole) (x : Vec F s e)
    {off : Fin s.rank → ℕ} (inb : ∀ a, off a + s.size a ≤ s.size a) :
    r.view.readAt (Elt F) (Rect.unit off s.size inb).toLoadRect (h.unread x) = x :=
  (View.readAt_full _ _ _).trans (h.read_unread _)

end Cert.Hand

end
-- ==== Proof.Data.lean ====
module

public import proofs.«01_k».proof.Proof.Values

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the buffers hold after each point -/

/-- Point number `n` of the grid. -/
def pt (n : ℕ) : Fin cfg0.N := ⟨n % 25, Nat.lt_of_lt_of_eq (Nat.mod_lt n (by decide)) N_0.symm⟩

/-- A point is the point of its number. -/
theorem pt_val (t : Fin cfg0.N) : pt t.val = t := Fin.ext (Nat.mod_eq_of_lt (lt25 t))

/-- The features, as the first point leaves them. -/
def FT (c : Dev nD) : Vec F S10000x256 .bf16 := feat (iblk m c 1 (pt 0)) (iblk m c 2 (pt 0)) (iblk m c 3 (pt 0))

/-- The embedding rows computed at a point. -/
def blockRows (c : Dev nD) (t : Fin cfg0.N) : Vec F S400x256 .bf16 :=
  k0_pay8 (iblk m c 0 t) (FT m c) (iblk m c 4 t) (iblk m c 5 t)

/-- A point's part of the weighted sum of the embedding rows. -/
def rowPart (c : Dev nD) (t : Fin cfg0.N) : Vec F S1x128 .f32 :=
  k0_pay10 (iblk m c 0 t) (FT m c) (iblk m c 4 t) (iblk m c 5 t) (iblk m c 6 t)

/-- The weighted sum of the embedding rows after point `n`. -/
def rowSum (c : Dev nD) : ℕ → Vec F S1x128 .f32
  | 0 => k0_pay12 (iblk m c 0 (pt 0)) (FT m c) (iblk m c 4 (pt 0)) (iblk m c 5 (pt 0)) (iblk m c 6 (pt 0))
  | n + 1 => k0_pay1 (rowPart m c (pt (n + 1))) (rowSum c n)

/-- The sum of the weights after point `n`. -/
def cntSum (c : Dev nD) : ℕ → F .f32
  | 0 => k0_pay11 (iblk m c 6 (pt 0))
  | n + 1 => k0_pay2 (k0_pay11 (iblk m c 6 (pt (n + 1)))) (cntSum c n)

/-- The row of its block that a row of the whole buffer is. -/
def inBlock (y : S10000x256.Idx) : S400x256.Idx :=
  ix2 (n0 := 400) (n1 := 256) ⟨(y 0).val % 400, Nat.mod_lt _ (by decide)⟩ (y 1)

/-- All embedding rows: each is a row of the block of its point. -/
def allRows (c : Dev nD) : Vec F S10000x256 .bf16 := fun y => blockRows m c (pt ((y 0).val / 400)) (inBlock y)

/-- The first `n` blocks of the embedding buffer are filled. -/
def Filled (c : Dev nD) (n : ℕ) (d : Vec F S10000x256 .bf16) : Prop :=
  ∀ y : S10000x256.Idx, (y 0).val < 400 * n → d y = allRows m c y

/-- Nothing is asked of the buffer before the first point. -/
theorem filled_none (c : Dev nD) (d : Vec F S10000x256 .bf16) : Filled m c 0 d := fun y h => by omega

/-- With all 25 blocks filled the buffer holds all rows. -/
theorem filled_all (c : Dev nD) {d : Vec F S10000x256 .bf16} (h : Filled m c 25 d) : d = allRows m c :=
  funext fun y => h y (by have := idx2_lt0 y; omega)

/-- Putting in a point's block fills one more block. -/
theorem filled_put (c : Dev nD) (t : Fin cfg0.N) {d : Vec F S10000x256 .bf16} (h : Filled m c t.val d) :
    Filled m c (t.val + 1) (VecWindow.put d (k0_off1 (grid0.coords t)) S400x256.size (blockRows m c t)) := by
  intro y hy
  rw [off_eq]
  have h1 : (y 1).val < 256 := idx2_lt1 y
  unfold VecWindow.put
  by_cases hlt : (y 0).val < 400 * t.val
  · rw [dif_neg (fun hh => by have := (hh 0).1; simp only [Matrix.cons_val_zero] at this; omega)]
    exact h y hlt
  · have hin : ∀ a : Fin 2, (![400 * t.val, 0] : Fin 2 → ℕ) a ≤ (y a).val
        ∧ (y a).val < (![400 * t.val, 0] : Fin 2 → ℕ) a + S400x256.size a :=
      Fin.forall_fin_two.mpr ⟨⟨Nat.le_of_not_lt hlt, by show (y 0).val < 400 * t.val + 400; omega⟩,
        ⟨Nat.zero_le _, by show (y 1).val < 0 + 256; omega⟩⟩
    refine (dif_pos hin).trans ?_
    have hq : (y 0).val / 400 = t.val := by omega
    unfold allRows
    rw [hq, pt_val]
    refine congrArg (blockRows m c t) (funext (Fin.forall_fin_two.mpr ⟨Fin.ext ?_, Fin.ext ?_⟩))
    · show (y 0).val - 400 * t.val = (y 0).val % 400; omega
    · show (y 1).val - 0 = (y 1).val; omega

/-- The scores the last point stores. -/
def scores (c : Dev nD) (t : Fin cfg0.N) : Vec F S2x10000 .f32 :=
  k0_pay3 (rowSum m c t.val) (cntSum m c t.val) (iblk m c 7 t) (allRows m c) (iblk m c 8 t) (iblk m c 9 t)

/-- What holds between points: before the first one the scratches hold anything; later the features are there, the blocks
    so far are filled, and the two sums are those of the points so far. -/
def Held (c : Dev nD) : ℕ → sProp 𝕄
  | 0 => Pipeline.ΦA spec0 c
  | n + 1 => iprop(iprop(owns (c : Thread nD τ) sc0 fullShare (FT m c)
      ∗ (∃ d, ⌜Filled m c (n + 1) d⌝ ∗ owns (c : Thread nD τ) sc1 fullShare d)
      ∗ owns (c : Thread nD τ) sc2 fullShare (rowSum m c n)
      ∗ owns (c : Thread nD τ) sc3 fullShare (fun _ => cntSum m c n)) ∗ (∃ r, prngReg c r))

/-- The proof data: the arrays as the region finds them; after a point each input's buffer holds its block and the output's
    buffer the scores; between points `Held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => scores m c t
  Φ t := Held m c t.val
  q _ := fullShare
  owed _ := 0

/-- The arrays at the start of the region are those that the launch finds. -/
theorem A_eq (c : Dev nD) (w : Fin cfg0.W) : (dats m 0 c).A w = V m c (Pipeline.arrRef spec0 w) := by
  dsimp only [dats]

/-- Input window 0 holds its block after a point. -/
theorem after_0 (c : Dev nD) (t : Fin cfg0.N) : (dats m 0 c).after 0 t = iblk m c 0 t := by dsimp only [dats]
/-- Input window 1 holds its block after a point. -/
theorem after_1 (c : Dev nD) (t : Fin cfg0.N) : (dats m 0 c).after 1 t = iblk m c 1 t := by dsimp only [dats]
/-- Input window 2 holds its block after a point. -/
theorem after_2 (c : Dev nD) (t : Fin cfg0.N) : (dats m 0 c).after 2 t = iblk m c 2 t := by dsimp only [dats]
/-- Input window 3 holds its block after a point. -/
theorem after_3 (c : Dev nD) (t : Fin cfg0.N) : (dats m 0 c).after 3 t = iblk m c 3 t := by dsimp only [dats]
/-- Input window 4 holds its block after a point. -/
theorem after_4 (c : Dev nD) (t : Fin cfg0.N) : (dats m 0 c).after 4 t = iblk m c 4 t := by dsimp only [dats]
/-- Input window 5 holds its block after a point. -/
theorem after_5 (c : Dev nD) (t : Fin cfg0.N) : (dats m 0 c).after 5 t = iblk m c 5 t := by dsimp only [dats]
/-- Input window 6 holds its block after a point. -/
theorem after_6 (c : Dev nD) (t : Fin cfg0.N) : (dats m 0 c).after 6 t = iblk m c 6 t := by dsimp only [dats]
/-- Input window 7 holds its block after a point. -/
theorem after_7 (c : Dev nD) (t : Fin cfg0.N) : (dats m 0 c).after 7 t = iblk m c 7 t := by dsimp only [dats]
/-- Input window 8 holds its block after a point. -/
theorem after_8 (c : Dev nD) (t : Fin cfg0.N) : (dats m 0 c).after 8 t = iblk m c 8 t := by dsimp only [dats]
/-- Input window 9 holds its block after a point. -/
theorem after_9 (c : Dev nD) (t : Fin cfg0.N) : (dats m 0 c).after 9 t = iblk m c 9 t := by dsimp only [dats]
/-- After a point the output buffer holds the scores of the sums so far. -/
theorem after_10 (c : Dev nD) (t : Fin cfg0.N) : (dats m 0 c).after 10 t = scores m c t := by dsimp only [dats]

/-! Each input's buffer holds its block when a point starts. -/
theorem before_0 (c : Dev nD) (t : Fin cfg0.N) (d) : (dats m 0 c).before 0 t d = iblk m c 0 t :=
  before0_0_of m (dats m 0 c) (A_eq m c 0) (after_0 m c) t d
/-- Input window 1 holds its block before a point. -/
theorem before_1 (c : Dev nD) (t : Fin cfg0.N) (d) : (dats m 0 c).before 1 t d = iblk m c 1 t :=
  before0_1_of m (dats m 0 c) (A_eq m c 1) (after_1 m c) t d
/-- Input window 2 holds its block before a point. -/
theorem before_2 (c : Dev nD) (t : Fin cfg0.N) (d) : (dats m 0 c).before 2 t d = iblk m c 2 t :=
  before0_2_of m (dats m 0 c) (A_eq m c 2) (after_2 m c) t d
/-- Input window 3 holds its block before a point. -/
theorem before_3 (c : Dev nD) (t : Fin cfg0.N) (d) : (dats m 0 c).before 3 t d = iblk m c 3 t :=
  before0_3_of m (dats m 0 c) (A_eq m c 3) (after_3 m c) t d
/-- Input window 4 holds its block before a point. -/
theorem before_4 (c : Dev nD) (t : Fin cfg0.N) (d) : (dats m 0 c).before 4 t d = iblk m c 4 t :=
  before0_4_of m (dats m 0 c) (A_eq m c 4) (after_4 m c) t d
/-- Input window 5 holds its block before a point. -/
theorem before_5 (c : Dev nD) (t : Fin cfg0.N) (d) : (dats m 0 c).before 5 t d = iblk m c 5 t :=
  before0_5_of m (dats m 0 c) (A_eq m c 5) (after_5 m c) t d
/-- Input window 6 holds its block before a point. -/
theorem before_6 (c : Dev nD) (t : Fin cfg0.N) (d) : (dats m 0 c).before 6 t d = iblk m c 6 t :=
  before0_6_of m (dats m 0 c) (A_eq m c 6) (after_6 m c) t d
/-- Input window 7 holds its block before a point. -/
theorem before_7 (c : Dev nD) (t : Fin cfg0.N) (d) : (dats m 0 c).before 7 t d = iblk m c 7 t :=
  before0_7_of m (dats m 0 c) (A_eq m c 7) (after_7 m c) t d
/-- Input window 8 holds its block before a point. -/
theorem before_8 (c : Dev nD) (t : Fin cfg0.N) (d) : (dats m 0 c).before 8 t d = iblk m c 8 t :=
  before0_8_of m (dats m 0 c) (A_eq m c 8) (after_8 m c) t d
/-- Input window 9 holds its block before a point. -/
theorem before_9 (c : Dev nD) (t : Fin cfg0.N) (d) : (dats m 0 c).before 9 t d = iblk m c 9 t :=
  before0_9_of m (dats m 0 c) (A_eq m c 9) (after_9 m c) t d

/-! A point leaves each input's buffer at its block. -/
theorem leaves_0 (c : Dev nD) (t : Fin cfg0.N) :
    (dats m 0 c).leavesExact 0 t = owns (c : Thread nD τ) (st0 t) fullShare (iblk m c 0 t) := by
  unfold Dat.leavesExact
  rw [show cfg0.idle 0 (grid0.coords t) = false from rfl, after_0]
/-- What the body leaves for window 1. -/
theorem leaves_1 (c : Dev nD) (t : Fin cfg0.N) :
    (dats m 0 c).leavesExact 1 t = owns (c : Thread nD τ) (st1 t) fullShare (iblk m c 1 t) := by
  unfold Dat.leavesExact
  rw [show cfg0.idle 1 (grid0.coords t) = false from rfl, after_1]
/-- What the body leaves for window 2. -/
theorem leaves_2 (c : Dev nD) (t : Fin cfg0.N) :
    (dats m 0 c).leavesExact 2 t = owns (c : Thread nD τ) (st2 t) fullShare (iblk m c 2 t) := by
  unfold Dat.leavesExact
  rw [show cfg0.idle 2 (grid0.coords t) = false from rfl, after_2]
/-- What the body leaves for window 3. -/
theorem leaves_3 (c : Dev nD) (t : Fin cfg0.N) :
    (dats m 0 c).leavesExact 3 t = owns (c : Thread nD τ) (st3 t) fullShare (iblk m c 3 t) := by
  unfold Dat.leavesExact
  rw [show cfg0.idle 3 (grid0.coords t) = false from rfl, after_3]
/-- What the body leaves for window 4. -/
theorem leaves_4 (c : Dev nD) (t : Fin cfg0.N) :
    (dats m 0 c).leavesExact 4 t = owns (c : Thread nD τ) (st4 t) fullShare (iblk m c 4 t) := by
  unfold Dat.leavesExact
  rw [show cfg0.idle 4 (grid0.coords t) = false from rfl, after_4]
/-- What the body leaves for window 5. -/
theorem leaves_5 (c : Dev nD) (t : Fin cfg0.N) :
    (dats m 0 c).leavesExact 5 t = owns (c : Thread nD τ) (st5 t) fullShare (iblk m c 5 t) := by
  unfold Dat.leavesExact
  rw [show cfg0.idle 5 (grid0.coords t) = false from rfl, after_5]
/-- What the body leaves for window 6. -/
theorem leaves_6 (c : Dev nD) (t : Fin cfg0.N) :
    (dats m 0 c).leavesExact 6 t = owns (c : Thread nD τ) (st6 t) fullShare (iblk m c 6 t) := by
  unfold Dat.leavesExact
  rw [show cfg0.idle 6 (grid0.coords t) = false from rfl, after_6]
/-- What the body leaves for window 7. -/
theorem leaves_7 (c : Dev nD) (t : Fin cfg0.N) :
    (dats m 0 c).leavesExact 7 t = owns (c : Thread nD τ) (st7 t) fullShare (iblk m c 7 t) := by
  unfold Dat.leavesExact
  rw [show cfg0.idle 7 (grid0.coords t) = false from rfl, after_7]
/-- What the body leaves for window 8. -/
theorem leaves_8 (c : Dev nD) (t : Fin cfg0.N) :
    (dats m 0 c).leavesExact 8 t = owns (c : Thread nD τ) (st8 t) fullShare (iblk m c 8 t) := by
  unfold Dat.leavesExact
  rw [show cfg0.idle 8 (grid0.coords t) = false from rfl, after_8]
/-- What the body leaves for window 9. -/
theorem leaves_9 (c : Dev nD) (t : Fin cfg0.N) :
    (dats m 0 c).leavesExact 9 t = owns (c : Thread nD τ) (st9 t) fullShare (iblk m c 9 t) := by
  unfold Dat.leavesExact
  rw [show cfg0.idle 9 (grid0.coords t) = false from rfl, after_9]

/-- A point before the last leaves the output's buffer as it found it. -/
theorem leaves_10_idle (c : Dev nD) (t : Fin cfg0.N) (h : ¬ IsLast (grid0.coords t)) :
    (dats m 0 c).leavesExact 10 t
      = iprop(∃ d, owns (c : Thread nD τ) (st10 t) fullShare ((dats m 0 c).before 10 t d)) := by
  refine Dat.leavesExact_idle (dats m 0 c) 10 t ?_ ?_
  · show (!(k0_cond4 (grid0.coords t) == 1#1)) = true
    rw [Bool.not_eq_true', beq_eq_false_iff_ne]; exact h
  · rw [Bool.eq_false_iff]
    intro hf
    have h1 := (flush0_10 t).mp hf
    have h2 := lt25 t
    exact h ((isLast_iff t).mpr (by omega))

/-- The last point leaves the scores in the output's buffer. -/
theorem leaves_10_last (c : Dev nD) (t : Fin cfg0.N) (h : IsLast (grid0.coords t)) :
    (dats m 0 c).leavesExact 10 t = owns (c : Thread nD τ) (st10 t) fullShare (scores m c t) := by
  unfold Dat.leavesExact
  rw [show cfg0.idle 10 (grid0.coords t) = false from by
    show (!(k0_cond4 (grid0.coords t) == 1#1)) = false
    rw [show k0_cond4 (grid0.coords t) = 1#1 from h]; rfl, after_10]

end Cert.Hand

end
-- ==== Proof.RunFirst.lean ====
module

public import proofs.«01_k».proof.Proof.Values

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

set_option maxHeartbeats 2400000 in
/-- The body at the first point, run to its end: the feature buffer is filled, the point's row block is put in the embedding
    buffer, and the two sums are started. -/
theorem first_point (c : Dev nD) (i : grid0.Coords) (arg1 : Memref sig .tc .vmem S400x10000 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x256 .f32) (harg5 : arg5.IsWhole)
    (arg6 : Memref sig .tc .vmem S1x1 .f32) (harg6 : arg6.IsWhole)
    (arg7 : Memref sig .tc .vmem S400x1 .f32) (harg7 : arg7.IsWhole)
    (arg8 : Memref sig .tc .vmem S128x128 .f32) (harg8 : arg8.IsWhole)
    (arg9 : Memref sig .tc .vmem S1x1 .f32) (harg9 : arg9.IsWhole)
    (arg10 : Memref sig .tc .vmem S2x10000 .f32) (harg10 : arg10.IsWhole)
    (arg11 : Memref sig .tc .vmem S2x10000 .f32) (harg11 : arg11.IsWhole)
    (arg12 : Memref sig .tc .vmem S10000x256 .bf16) (harg12 : arg12.IsWhole)
    (arg13 : Memref sig .tc .vmem S10000x256 .bf16) (harg13 : arg13.IsWhole)
    (arg14 : Memref sig .tc .vmem S1x128 .f32) (harg14 : arg14.IsWhole)
    (arg15 : Memref sig .tc .smem S1x1 .f32) (harg15 : arg15.IsWhole)
    (hfirst : IsFirst i) (hlater : ¬ IsLater i) (hlast : ¬ IsLast i)
    (x0 : Vec F S400x10000 .f32)
    (x1 : Vec F S10000x128 .f32)
    (x2 : Vec F S10000x128 .f32)
    (x3 : Vec F S128x128 .f32)
    (x4 : Vec F S1x256 .f32)
    (x5 : Vec F S1x1 .f32)
    (x6 : Vec F S400x1 .f32)
    (x7 : Vec F S128x128 .f32)
    (x8 : Vec F S1x1 .f32)
    (x9 : Vec F S2x10000 .f32)
    (x10 : Vec F S2x10000 .f32)
    (x11 : Vec F S10000x256 .bf16)
    (x12 : Vec F S10000x256 .bf16)
    (x13 : Vec F S1x128 .f32)
    (x14 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (feat x1 x2 x3) ∗ owns (c : Thread nD τ) arg13 fullShare (putRows i x12 x0 (feat x1 x2 x3) x4 x5) ∗ owns (c : Thread nD τ) arg14 fullShare (k0_pay12 x0 (feat x1 x2 x3) x4 x5 x6) ∗ owns (c : Thread nD τ) arg15 fullShare (fun _ => k0_pay11 x6)) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dgi_body_eq_skeleton]; unfold cc0__dgi_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hfirst | sl_exact hlater | sl_exact hlast)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    exact harg9.read_unread _
  isplitl [H9]
  · iexists _; isplitr; swap; · iexact H9
    ipureintro
    exact harg10.read_unread _
  isplitl [H10]
  · iexists _; isplitr; swap; · iexact H10
    ipureintro
    exact harg11.read_unread _
  isplitl [H11]
  · iexists _; isplitr; swap; · iexact H11
    ipureintro
    delta first_point.sl.H11_2 first_point.sl.v6
    exact (read_halves _ _ _ _ _ _).trans
      (congrArg₂ halves (congrArg₂ k0_pay5 (load_all harg4 x3 _) (load_all harg2 x1 _)) (congrArg₂ k0_pay6 (load_all harg4 x3 _) (load_all harg3 x2 _)))
  isplitl [H12]
  · iexists _; isplitr; swap; · iexact H12
    ipureintro
    delta first_point.sl.H11_2 first_point.sl.v6
    exact put_rows harg13 x12 i _
        (congr (congr (congr (congrArg k0_pay8 (load_all harg1 x0 _)) (show _ = feat x1 x2 x3 from (View.readAt_full _ _ _).trans ((read_halves _ _ _ _ _ _).trans
      (congrArg₂ halves (congrArg₂ k0_pay5 (load_all harg4 x3 _) (load_all harg2 x1 _)) (congrArg₂ k0_pay6 (load_all harg4 x3 _) (load_all harg3 x2 _)))))) (load_all harg5 x4 _)) (load_all harg6 x5 _))
  isplitl [H13]
  · iexists _; isplitr; swap; · iexact H13
    ipureintro
    delta first_point.sl.H11_2 first_point.sl.v6
    exact (View.read_writes_full _ _ _ _ _).trans (congr (congr (congr (congr (congrArg k0_pay12 (load_all harg1 x0 _)) (show _ = feat x1 x2 x3 from (View.readAt_full _ _ _).trans ((read_halves _ _ _ _ _ _).trans
      (congrArg₂ halves (congrArg₂ k0_pay5 (load_all harg4 x3 _) (load_all harg2 x1 _)) (congrArg₂ k0_pay6 (load_all harg4 x3 _) (load_all harg3 x2 _)))))) (load_all harg5 x4 _)) (load_all harg6 x5 _)) (load_all harg7 x6 _))
  iexists _; isplitr; swap; · iexact H14
  ipureintro
  exact (View.read_writes_full _ _ _ _ _).trans (funext fun _ => congrArg k0_pay11 (load_all harg7 x6 _))

end Cert.Hand

end
-- ==== Proof.RunMiddle.lean ====
module

public import proofs.«01_k».proof.Proof.Values

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

set_option maxHeartbeats 2400000 in
/-- The body at a point between the first and the last, run to its end: the point's row block is put in the embedding buffer
    and the two sums grow by the point's parts. -/
theorem middle_point (c : Dev nD) (i : grid0.Coords) (arg1 : Memref sig .tc .vmem S400x10000 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x256 .f32) (harg5 : arg5.IsWhole)
    (arg6 : Memref sig .tc .vmem S1x1 .f32) (harg6 : arg6.IsWhole)
    (arg7 : Memref sig .tc .vmem S400x1 .f32) (harg7 : arg7.IsWhole)
    (arg8 : Memref sig .tc .vmem S128x128 .f32) (harg8 : arg8.IsWhole)
    (arg9 : Memref sig .tc .vmem S1x1 .f32) (harg9 : arg9.IsWhole)
    (arg10 : Memref sig .tc .vmem S2x10000 .f32) (harg10 : arg10.IsWhole)
    (arg11 : Memref sig .tc .vmem S2x10000 .f32) (harg11 : arg11.IsWhole)
    (arg12 : Memref sig .tc .vmem S10000x256 .bf16) (harg12 : arg12.IsWhole)
    (arg13 : Memref sig .tc .vmem S10000x256 .bf16) (harg13 : arg13.IsWhole)
    (arg14 : Memref sig .tc .vmem S1x128 .f32) (harg14 : arg14.IsWhole)
    (arg15 : Memref sig .tc .smem S1x1 .f32) (harg15 : arg15.IsWhole)
    (hfirst : ¬ IsFirst i) (hlater : IsLater i) (hlast : ¬ IsLast i)
    (x0 : Vec F S400x10000 .f32)
    (x1 : Vec F S10000x128 .f32)
    (x2 : Vec F S10000x128 .f32)
    (x3 : Vec F S128x128 .f32)
    (x4 : Vec F S1x256 .f32)
    (x5 : Vec F S1x1 .f32)
    (x6 : Vec F S400x1 .f32)
    (x7 : Vec F S128x128 .f32)
    (x8 : Vec F S1x1 .f32)
    (x9 : Vec F S2x10000 .f32)
    (x10 : Vec F S2x10000 .f32)
    (x11 : Vec F S10000x256 .bf16)
    (x12 : Vec F S10000x256 .bf16)
    (x13 : Vec F S1x128 .f32)
    (x14 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (putRows i x12 x0 x11 x4 x5) ∗ owns (c : Thread nD τ) arg14 fullShare (k0_pay1 (k0_pay10 x0 x11 x4 x5 x6) x13) ∗ owns (c : Thread nD τ) arg15 fullShare (fun _ => (k0_pay2 (k0_pay11 x6) (theOne x14)))) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dgi_body_eq_skeleton]; unfold cc0__dgi_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hfirst | sl_exact hlater | sl_exact hlast)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    exact harg9.read_unread _
  isplitl [H9]
  · iexists _; isplitr; swap; · iexact H9
    ipureintro
    exact harg10.read_unread _
  isplitl [H10]
  · iexists _; isplitr; swap; · iexact H10
    ipureintro
    exact harg11.read_unread _
  isplitl [H11]
  · iexists _; isplitr; swap; · iexact H11
    ipureintro
    exact harg12.read_unread _
  isplitl [H12]
  · iexists _; isplitr; swap; · iexact H12
    ipureintro
    try delta middle_point.sl.r middle_point.sl.r_1 middle_point.sl.r_2
    exact put_rows harg13 x12 i _
        (congr (congr (congr (congrArg k0_pay8 (load_all harg1 x0 _)) (load_all harg12 x11 _)) (load_all harg5 x4 _)) (load_all harg6 x5 _))
  isplitl [H13]
  · iexists _; isplitr; swap; · iexact H13
    ipureintro
    try delta middle_point.sl.r middle_point.sl.r_1 middle_point.sl.r_2
    exact (View.read_writes_full _ _ _ _ _).trans (congrArg₂ k0_pay1 (congr (congr (congr (congr (congrArg k0_pay10 (load_all harg1 x0 _)) (load_all harg12 x11 _)) (load_all harg5 x4 _)) (load_all harg6 x5 _)) (load_all harg7 x6 _)) (load_all harg14 x13 _))
  iexists _; isplitr; swap; · iexact H14
  ipureintro
  try delta middle_point.sl.r middle_point.sl.r_1 middle_point.sl.r_2
  exact (View.read_writes_full _ _ _ _ _).trans (funext fun _ => congrArg₂ k0_pay2 (congrArg k0_pay11 (load_all harg7 x6 _)) ((congrFun (load_all harg15 x14 _) _).trans (congrArg x14 (one_idx _ _))))

end Cert.Hand

end
-- ==== Proof.RunLast.lean ====
module

public import proofs.«01_k».proof.Proof.Values

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

set_option maxHeartbeats 2400000 in
/-- The body at the last point, run to its end: as at the points before, and then the scores of all nodes are stored. -/
theorem last_point (c : Dev nD) (i : grid0.Coords) (arg1 : Memref sig .tc .vmem S400x10000 .f32) (harg1 : arg1.IsWhole)
    (arg2 : Memref sig .tc .vmem S10000x128 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x256 .f32) (harg5 : arg5.IsWhole)
    (arg6 : Memref sig .tc .vmem S1x1 .f32) (harg6 : arg6.IsWhole)
    (arg7 : Memref sig .tc .vmem S400x1 .f32) (harg7 : arg7.IsWhole)
    (arg8 : Memref sig .tc .vmem S128x128 .f32) (harg8 : arg8.IsWhole)
    (arg9 : Memref sig .tc .vmem S1x1 .f32) (harg9 : arg9.IsWhole)
    (arg10 : Memref sig .tc .vmem S2x10000 .f32) (harg10 : arg10.IsWhole)
    (arg11 : Memref sig .tc .vmem S2x10000 .f32) (harg11 : arg11.IsWhole)
    (arg12 : Memref sig .tc .vmem S10000x256 .bf16) (harg12 : arg12.IsWhole)
    (arg13 : Memref sig .tc .vmem S10000x256 .bf16) (harg13 : arg13.IsWhole)
    (arg14 : Memref sig .tc .vmem S1x128 .f32) (harg14 : arg14.IsWhole)
    (arg15 : Memref sig .tc .smem S1x1 .f32) (harg15 : arg15.IsWhole)
    (hfirst : ¬ IsFirst i) (hlater : IsLater i) (hlast : IsLast i)
    (x0 : Vec F S400x10000 .f32)
    (x1 : Vec F S10000x128 .f32)
    (x2 : Vec F S10000x128 .f32)
    (x3 : Vec F S128x128 .f32)
    (x4 : Vec F S1x256 .f32)
    (x5 : Vec F S1x1 .f32)
    (x6 : Vec F S400x1 .f32)
    (x7 : Vec F S128x128 .f32)
    (x8 : Vec F S1x1 .f32)
    (x9 : Vec F S2x10000 .f32)
    (x10 : Vec F S2x10000 .f32)
    (x11 : Vec F S10000x256 .bf16)
    (x12 : Vec F S10000x256 .bf16)
    (x13 : Vec F S1x128 .f32)
    (x14 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay3 (k0_pay1 (k0_pay10 x0 x11 x4 x5 x6) x13) (k0_pay2 (k0_pay11 x6) (theOne x14)) x7 (putRows i x12 x0 x11 x4 x5) x8 x9) ∗ owns (c : Thread nD τ) arg12 fullShare x11 ∗ owns (c : Thread nD τ) arg13 fullShare (putRows i x12 x0 x11 x4 x5) ∗ owns (c : Thread nD τ) arg14 fullShare (k0_pay1 (k0_pay10 x0 x11 x4 x5 x6) x13) ∗ owns (c : Thread nD τ) arg15 fullShare (fun _ => (k0_pay2 (k0_pay11 x6) (theOne x14)))) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__dgi_body_eq_skeleton]; unfold cc0__dgi_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hfirst | sl_exact hlater | sl_exact hlast)
  sl_step
  iapply Hk
  isplitl [H0]
  · iexists _; isplitr; swap; · iexact H0
    ipureintro
    exact harg1.read_unread _
  isplitl [H1]
  · iexists _; isplitr; swap; · iexact H1
    ipureintro
    exact harg2.read_unread _
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    exact harg5.read_unread _
  isplitl [H5]
  · iexists _; isplitr; swap; · iexact H5
    ipureintro
    exact harg6.read_unread _
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    exact harg9.read_unread _
  isplitl [H9]
  · iexists _; isplitr; swap; · iexact H9
    ipureintro
    exact harg10.read_unread _
  isplitl [H10]
  · iexists _; isplitr; swap; · iexact H10
    ipureintro
    delta last_point.sl.v42 last_point.sl.r_3 last_point.sl.v55 last_point.sl.H12_1 last_point.sl.H13_1 last_point.sl.r last_point.sl.r_1 last_point.sl.r_2
    exact (View.read_writes_full _ _ _ _ _).trans (congr (congr (congr (congr (congr (congrArg k0_pay3 ((View.readAt_writes_full _ _ _ _ _ _).trans (congrArg₂ k0_pay1 (congr (congr (congr (congr (congrArg k0_pay10 (load_all harg1 x0 _)) (load_all harg12 x11 _)) (load_all harg5 x4 _)) (load_all harg6 x5 _)) (load_all harg7 x6 _)) (load_all harg14 x13 _)))) (congrArg₂ k0_pay2 (congrArg k0_pay11 (load_all harg7 x6 _)) ((congrFun (load_all harg15 x14 _) _).trans (congrArg x14 (one_idx _ _))))) (load_all harg8 x7 _)) ((View.readAt_full _ _ _).trans (put_rows harg13 x12 i _
        (congr (congr (congr (congrArg k0_pay8 (load_all harg1 x0 _)) (load_all harg12 x11 _)) (load_all harg5 x4 _)) (load_all harg6 x5 _))))) (load_all harg9 x8 _)) (load_all harg10 x9 _))
  isplitl [H11]
  · iexists _; isplitr; swap; · iexact H11
    ipureintro
    exact harg12.read_unread _
  isplitl [H12]
  · iexists _; isplitr; swap; · iexact H12
    ipureintro
    try delta last_point.sl.v42 last_point.sl.r_3 last_point.sl.v55 last_point.sl.H12_1 last_point.sl.H13_1 last_point.sl.r last_point.sl.r_1 last_point.sl.r_2
    exact put_rows harg13 x12 i _
        (congr (congr (congr (congrArg k0_pay8 (load_all harg1 x0 _)) (load_all harg12 x11 _)) (load_all harg5 x4 _)) (load_all harg6 x5 _))
  isplitl [H13]
  · iexists _; isplitr; swap; · iexact H13
    ipureintro
    try delta last_point.sl.v42 last_point.sl.r_3 last_point.sl.v55 last_point.sl.H12_1 last_point.sl.H13_1 last_point.sl.r last_point.sl.r_1 last_point.sl.r_2
    exact (View.read_writes_full _ _ _ _ _).trans (congrArg₂ k0_pay1 (congr (congr (congr (congr (congrArg k0_pay10 (load_all harg1 x0 _)) (load_all harg12 x11 _)) (load_all harg5 x4 _)) (load_all harg6 x5 _)) (load_all harg7 x6 _)) (load_all harg14 x13 _))
  iexists _; isplitr; swap; · iexact H14
  ipureintro
  try delta last_point.sl.v42 last_point.sl.r_3 last_point.sl.v55 last_point.sl.H12_1 last_point.sl.H13_1 last_point.sl.r last_point.sl.r_1 last_point.sl.r_2
  exact (View.read_writes_full _ _ _ _ _).trans (funext fun _ => congrArg₂ k0_pay2 (congrArg k0_pay11 (load_all harg7 x6 _)) ((congrFun (load_all harg15 x14 _) _).trans (congrArg x14 (one_idx _ _))))

end Cert.Hand

end
-- ==== Proof.Run.lean ====
module

public import proofs.«01_k».proof.Proof.Data
public import proofs.«01_k».proof.Proof.RunFirst
public import proofs.«01_k».proof.Proof.RunMiddle
public import proofs.«01_k».proof.Proof.RunLast

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at every point -/

/-- What holds after a point, spelt out. -/
theorem held_succ (c : Dev nD) (n : ℕ) :
    Held m c (n + 1) = iprop(iprop(owns (c : Thread nD τ) sc0 fullShare (FT m c)
      ∗ (∃ d, ⌜Filled m c (n + 1) d⌝ ∗ owns (c : Thread nD τ) sc1 fullShare d)
      ∗ owns (c : Thread nD τ) sc2 fullShare (rowSum m c n)
      ∗ owns (c : Thread nD τ) sc3 fullShare (fun _ => cntSum m c n)) ∗ (∃ r, prngReg c r)) := rfl

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- What the body gives back at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point gives back what it must. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.castSucc = Held m c t.val from rfl, show (dats m 0 c).Φ t.succ = Held m c (t.val + 1) from rfl, held_succ]
  have hN : t.val < 25 := lt25 t
  by_cases h0 : t.val = 0
  · have ht : t = pt 0 := (pt_val t).symm.trans (congrArg pt h0)
    have hl : ¬ IsLast (grid0.coords t) := fun h => by have := (isLast_iff t).mp h; omega
    have hF : FT m c = feat (iblk m c 1 t) (iblk m c 2 t) (iblk m c 3 t) := by rw [ht]; rfl
    have hR : rowSum m c t.val = k0_pay12 (iblk m c 0 t) (FT m c) (iblk m c 4 t) (iblk m c 5 t) (iblk m c 6 t) := by
      rw [h0, ht]; rfl
    have hC : cntSum m c t.val = k0_pay11 (iblk m c 6 t) := by rw [h0, ht]; rfl
    rw [hR, hC, show Held m c t.val = Pipeline.ΦA spec0 c from by rw [h0]; rfl, start_eq]
    rw [leaves_0, leaves_1, leaves_2, leaves_3, leaves_4, leaves_5, leaves_6, leaves_7, leaves_8, leaves_9, leaves_10_idle m c t hl]
    iintro ⟨⟨⟨⟨%e0, S0⟩, ⟨%e1, S1⟩, ⟨%e2, S2⟩, ⟨%e3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hfill : Filled m c (t.val + 1) (putRows (grid0.coords t) e1 (iblk m c 0 t) (FT m c) (iblk m c 4 t) (iblk m c 5 t)) :=
      filled_put m c t (by rw [h0]; exact filled_none m c e1)
    rw [hF] at hfill ⊢
    iapply (first_point c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) sc0 (Memref.isWhole_whole _) sc1 (Memref.isWhole_whole _) sc2 (Memref.isWhole_whole _) sc3 (Memref.isWhole_whole _)
      ((isFirst_iff t).mpr h0) (fun h => by have := (isLater_iff t).mp h; omega) hl (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) e0 e1 e2 e3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hg]
    · isplitl [S0 S1 S2 S3]
      · isplitl [S0]; · iexact S0
        isplitl [S1]
        · iexists _; isplitr; swap; · iexact S1
          ipureintro; exact hfill
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · obtain ⟨n, hn⟩ : ∃ n, t.val = n + 1 := ⟨t.val - 1, by omega⟩
    have hfi : ¬ IsFirst (grid0.coords t) := fun h => h0 ((isFirst_iff t).mp h)
    have hla : IsLater (grid0.coords t) := (isLater_iff t).mpr (by omega)
    have hp : pt (n + 1) = t := hn ▸ pt_val t
    have hR : rowSum m c t.val = k0_pay1 (k0_pay10 (iblk m c 0 t) (FT m c) (iblk m c 4 t) (iblk m c 5 t) (iblk m c 6 t)) (rowSum m c n) := by
      rw [hn]; show k0_pay1 (rowPart m c (pt (n + 1))) (rowSum m c n) = _; rw [hp]; rfl
    have hC : cntSum m c t.val = k0_pay2 (k0_pay11 (iblk m c 6 t)) (cntSum m c n) := by
      rw [hn]; show k0_pay2 (k0_pay11 (iblk m c 6 (pt (n + 1)))) (cntSum m c n) = _; rw [hp]
    rw [show Held m c t.val = Held m c (n + 1) from by rw [hn], held_succ, hR, hC]
    by_cases h24 : t.val = 24
    · have hl : IsLast (grid0.coords t) := (isLast_iff t).mpr h24
      rw [leaves_0, leaves_1, leaves_2, leaves_3, leaves_4, leaves_5, leaves_6, leaves_7, leaves_8, leaves_9, leaves_10_last m c t hl]
      iintro ⟨⟨⟨S0, ⟨%e1, %he, S1⟩, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hfill : Filled m c (t.val + 1) (putRows (grid0.coords t) e1 (iblk m c 0 t) (FT m c) (iblk m c 4 t) (iblk m c 5 t)) :=
        filled_put m c t (by rw [hn]; exact he)
      have hrows : putRows (grid0.coords t) e1 (iblk m c 0 t) (FT m c) (iblk m c 4 t) (iblk m c 5 t) = allRows m c :=
        filled_all m c (by rw [show 25 = t.val + 1 from by omega]; exact hfill)
      unfold scores
      rw [hR, hC, ← hrows]
      iapply (last_point c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) sc0 (Memref.isWhole_whole _) sc1 (Memref.isWhole_whole _) sc2 (Memref.isWhole_whole _) sc3 (Memref.isWhole_whole _)
        hfi hla hl (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (FT m c) e1 (rowSum m c n) (fun _ => cntSum m c n) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      iintro ⟨H0, H1, H2, H3, H4, H5, H6, H7, H8, H9, H10, S0, S1, S2, S3⟩
      isplitl [S0 S1 S2 S3 Hg]
      · isplitl [S0 S1 S2 S3]
        · isplitl [S0]; · iexact S0
          isplitl [S1]
          · iexists _; isplitr; swap; · iexact S1
            ipureintro; exact hfill
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hl : ¬ IsLast (grid0.coords t) := fun h => h24 ((isLast_iff t).mp h)
      rw [leaves_0, leaves_1, leaves_2, leaves_3, leaves_4, leaves_5, leaves_6, leaves_7, leaves_8, leaves_9, leaves_10_idle m c t hl]
      iintro ⟨⟨⟨S0, ⟨%e1, %he, S1⟩, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hfill : Filled m c (t.val + 1) (putRows (grid0.coords t) e1 (iblk m c 0 t) (FT m c) (iblk m c 4 t) (iblk m c 5 t)) :=
        filled_put m c t (by rw [hn]; exact he)
      iapply (middle_point c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) sc0 (Memref.isWhole_whole _) sc1 (Memref.isWhole_whole _) sc2 (Memref.isWhole_whole _) sc3 (Memref.isWhole_whole _)
        hfi hla hl (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (FT m c) e1 (rowSum m c n) (fun _ => cntSum m c n) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      iintro ⟨H0, H1, H2, H3, H4, H5, H6, H7, H8, H9, H10, S0, S1, S2, S3⟩
      isplitl [S0 S1 S2 S3 Hg]
      · isplitl [S0 S1 S2 S3]
        · isplitl [S0]; · iexact S0
          isplitl [S1]
          · iexists _; isplitr; swap; · iexact S1
            ipureintro; exact hfill
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The table's row for a point is the body at the point's buffers. -/
theorem defs₀_row (t : Fin cfg0.N) :
    defs₀ (F := F) .tc cfg0.body (cfg0.bodyArgs t (cfg0.slots t)) = bodyAt0 t := by
  unfold defs₀; rw [Defs.onTc_tc]

/-- The body is sound at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what holds before the first point. -/
theorem hin (c : Dev nD) : Pipeline.ΦA spec0 c ⊢ (dats m 0 c).Φ 0 := by
  rw [show (dats m 0 c).Φ 0 = Pipeline.ΦA spec0 c from rfl]

/-- What holds after the last point gives the scratches back. -/
theorem hout (c : Dev nD) : (dats m 0 c).Φ (Fin.last cfg0.N) ⊢ Pipeline.ΦA spec0 c := by
  rw [show (dats m 0 c).Φ (Fin.last cfg0.N) = Held m c (24 + 1) from by
    show Held m c (Fin.last cfg0.N).val = _; rw [Fin.val_last, show cfg0.N = 25 from N_0], held_succ, start_eq]
  iintro ⟨⟨S0, ⟨%d, %h, S1⟩, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-! # The run -/

set_option backward.isDefEq.respectTransparency.types false in
set_option maxHeartbeats 800000 in
/-- Every run ends, with the arrays at what the proof data say and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every run ends with the arrays at what the proof data say. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.Hand

end
-- ==== Proof.Frames.lean ====
/- The three frame claims: the kernel's, its idealization's and the reference's. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.Quiescent

@[expose] public section

set_option maxRecDepth 16384

noncomputable section

namespace Cert.Hand

open Idealize.ShloMosaic Idealize.ShloMosaic.TcCoe Idealize.SL.Sem

/-- The idealized kernel terminates with its arguments and every semaphore counter as they were. -/
theorem kernelIdeal_frame : Cert.quiescent_KernelIdeal := fun m ρ _ =>
  θ_run_with_sems (Cert.KernelIdeal.Gen.frame_of m ρ (dats m) (A_eq m)) (run_main_quiescent m ρ)

variable {F : FTy → Type} [FloatOps F]

/-! The kernel and its idealization are printed as the same text under two names, so the run proved of one is the
other's. -/

/-- The two kernel bodies are one function. -/
theorem body_eq : @Cert.Kernel.cc0__dgi_body F _ Cert.Kernel.Gen.facts
    = @Cert.KernelIdeal.cc0__dgi_body F _ Cert.KernelIdeal.Gen.facts := by
  delta Cert.Kernel.cc0__dgi_body Cert.KernelIdeal.cc0__dgi_body
  rfl

/-- The two tables of kernel bodies are one table. -/
theorem bodies_eq : Cert.Kernel.defs₀ (F := F) = Cert.KernelIdeal.defs₀ := by
  delta Cert.Kernel.defs₀ Cert.KernelIdeal.defs₀
  refine congrArg Defs.onTc (funext fun x => funext fun y => ?_)
  match x, y with
  | 0, (t, s) =>
    dsimp only
    rw [body_eq]
    rfl

/-- The two tables of bodies and pipelines are one table. -/
theorem table_eq : Cert.Kernel.defs (F := F) = Cert.KernelIdeal.defs := by
  delta Cert.Kernel.defs Cert.KernelIdeal.defs
  rw [bodies_eq]
  rfl

/-- The two host programs are one program. -/
theorem host_eq : Cert.Kernel.main (F := F) = Cert.KernelIdeal.main := by
  delta Cert.Kernel.main Cert.KernelIdeal.main
  refine funext fun _ => ?_
  rfl

/-- The kernel terminates with its arguments and every semaphore counter as they were. -/
theorem kernel_frame : Cert.quiescent_Kernel := by
  intro m ρ _
  rw [table_eq, host_eq]
  exact θ_run_with_sems (Cert.KernelIdeal.Gen.frame_of (F := Bits) m ρ (dats m) (A_eq m)) (run_main_quiescent m ρ)

/-- The reference terminates with its arguments as they were; it has no semaphore. -/
theorem referenceIdeal_frame : Cert.quiescent_ReferenceIdeal := fun m ρ _ =>
  (θ_run _ _ _).mono (fun _ h => ⟨fun c => (h c).2, sem_eq_zero_of_no_sems (by decide) _⟩) (Cert.ReferenceIdeal.Value.run m ρ)

end Cert.Hand

end
-- ==== Proof.Launched.lean ====
/- The arrays as the region finds them, and the blocks that the points read from them, as elements of the arguments. -/
module

public import proofs.«01_k».proof.Proof.Data
public import Idealize.ShloMosaic.Lib.Pointwise
public import Idealize.ShloMosaic.Lib.Pipeline.ValueKit
public import Idealize.ShloMosaic.Lib.ValueLayout

@[expose] public section

set_option maxRecDepth 16384

noncomputable section

namespace Cert.Hand

open Idealize.ShloMosaic Idealize.ShloMosaic.TcCoe
open Cert.KernelIdeal Cert.KernelIdeal.Gen

variable {F : FTy → Type} [FloatOps F] (m : (ℓ : Loc nD τ sig) → Buf (Elt F) ℓ)

/-- Dropping the leading unit axis of a stack of one matrix keeps every element. -/
theorem flat_at {α : Type} {a b : ℕ} (x : (⟨3, ![1, a, b]⟩ : Shape).Idx → α) (h : (⟨3, ![1, a, b]⟩ : Shape).ShapeCasts ⟨2, ![a, b]⟩)
    (r : Fin a) (k : Fin b) : shapeCast ⟨2, ![a, b]⟩ x h (ix2 r k) = x (ix3 0 r k) :=
  ValueIdx.shapeCast_1ab_ab_apply x h r k

/-- A transposed matrix at an index. -/
theorem flip_at {α : Type} (x : S128x128.Idx → α) (h : S128x128.Transposes [1, 0] S128x128)
    (r k : Fin 128) : transpose S128x128 [1, 0] x h (ix2 r k) = x (ix2 k r) := by
  pointwise

/-- A row laid out as a column keeps every element. -/
theorem column_at {α : Type} (x : S1x10000.Idx → α) (h : S1x10000.ShapeCasts S10000x1)
    (r : Fin 10000) : shapeCast S10000x1 x h (ix2 r 0) = x (ix2 0 r) := by
  refine shapeCast_apply x h _ _ ?_
  refine (Shape.rowMajor_val_two _).trans (Eq.trans ?_ (Shape.rowMajor_val_two _).symm)
  show 0 * 10000 + r.val = r.val * 1 + 0
  omega

/-- A single number as a matrix of one element. -/
theorem one_at {α : Type} (x : S_.Idx → α) (h : S_.ShapeCasts S1x1) :
     shapeCast S1x1 x h (ix2 0 0) = x ix0 := by
  pointwise

/-- A vector of one element as a matrix of one element. -/
theorem one_at' {α : Type} (x : S1.Idx → α) (h : S1.ShapeCasts S1x1) :
     shapeCast S1x1 x h (ix2 0 0) = x (ix1 0) := by
  pointwise

/-- The array `v0` that the launch finds, as the operation that made it. -/
theorem V_v0 (c : Dev nD) : V m c main_v0
    = shapeCast S10000x128 (m ((c : Thread nD τ).loc main_arg0)) shapeCasts_S1x10000x128_S10000x128 := by
  unfold V V0
  simp only [List.flatten_cons, List.flatten_nil, List.append_nil]
  after_results_simp
  rfl

/-- The array `v0` at an index, as an element of an argument. -/
theorem V_v0_at (c : Dev nD) (r : Fin 10000) (k : Fin 128) : V m c main_v0 (ix2 r k)
    = (m ((c : Thread nD τ).loc main_arg0)) (ix3 0 r k) := by
  rw [V_v0]
  exact flat_at _ _ _ _

/-- The array `v1` that the launch finds, as the operation that made it. -/
theorem V_v1 (c : Dev nD) : V m c main_v1
    = shapeCast S10000x128 (m ((c : Thread nD τ).loc main_arg1)) shapeCasts_S1x10000x128_S10000x128 := by
  unfold V V0
  simp only [List.flatten_cons, List.flatten_nil, List.append_nil]
  after_results_simp
  rfl

/-- The array `v1` at an index, as an element of an argument. -/
theorem V_v1_at (c : Dev nD) (r : Fin 10000) (k : Fin 128) : V m c main_v1 (ix2 r k)
    = (m ((c : Thread nD τ).loc main_arg1)) (ix3 0 r k) := by
  rw [V_v1]
  exact flat_at _ _ _ _

/-- The array `v2` that the launch finds, as the operation that made it. -/
theorem V_v2 (c : Dev nD) : V m c main_v2
    = shapeCast S10000x10000 (m ((c : Thread nD τ).loc main_arg2)) shapeCasts_S1x10000x10000_S10000x10000 := by
  unfold V V0
  simp only [List.flatten_cons, List.flatten_nil, List.append_nil]
  after_results_simp
  rfl

/-- The array `v2` at an index, as an element of an argument. -/
theorem V_v2_at (c : Dev nD) (r k : Fin 10000) : V m c main_v2 (ix2 r k) = (m ((c : Thread nD τ).loc main_arg2)) (ix3 0 r k) := by
  rw [V_v2]
  exact flat_at _ _ _ _

/-- The array `v3` that the launch finds, as the operation that made it. -/
theorem V_v3 (c : Dev nD) : V m c main_v3
    = transpose S128x128 [1, 0] (m ((c : Thread nD τ).loc main_arg7)) transposes_S128x128_S128x128_1_0 := by
  unfold V V0
  simp only [List.flatten_cons, List.flatten_nil, List.append_nil]
  after_results_simp

/-- The array `v3` at an index, as an element of an argument. -/
theorem V_v3_at (c : Dev nD) (r k : Fin 128) : V m c main_v3 (ix2 r k) = (m ((c : Thread nD τ).loc main_arg7)) (ix2 k r) := by
  rw [V_v3]
  exact flip_at _ _ _ _

/-- The array `v6` that the launch finds, as the operation that made it. -/
theorem V_v6 (c : Dev nD) : V m c main_v6 = shapeCast S1x1 (m ((c : Thread nD τ).loc main_arg9)) shapeCasts_S_S1x1 := by
  unfold V V0
  simp only [List.flatten_cons, List.flatten_nil, List.append_nil]
  after_results_simp
  rfl

/-- The array `v6` at an index, as an element of an argument. -/
theorem V_v6_at (c : Dev nD)  : V m c main_v6 (ix2 0 0) = (m ((c : Thread nD τ).loc main_arg9)) ix0 := by
  rw [V_v6]
  exact one_at _ _

/-- The array `v7` that the launch finds, as the operation that made it. -/
theorem V_v7 (c : Dev nD) : V m c main_v7
    = shapeCast S10000x1 (m ((c : Thread nD τ).loc main_arg4)) shapeCasts_S1x10000_S10000x1 := by
  unfold V V0
  simp only [List.flatten_cons, List.flatten_nil, List.append_nil]
  after_results_simp
  rfl

/-- The array `v7` at an index, as an element of an argument. -/
theorem V_v7_at (c : Dev nD) (r : Fin 10000) : V m c main_v7 (ix2 r 0) = (m ((c : Thread nD τ).loc main_arg4)) (ix2 0 r) := by
  rw [V_v7]
  exact column_at _ _ _

/-- The array `v9` that the launch finds, as the operation that made it. -/
theorem V_v9 (c : Dev nD) : V m c main_v9
    = transpose S128x128 [1, 0] (shapeCast S128x128 (m ((c : Thread nD τ).loc main_arg10)) shapeCasts_S1x128x128_S128x128) transposes_S128x128_S128x128_1_0 := by
  unfold V V0
  simp only [List.flatten_cons, List.flatten_nil, List.append_nil]
  after_results_simp
  rfl

/-- The array `v9` at an index, as an element of an argument. -/
theorem V_v9_at (c : Dev nD) (r k : Fin 128) : V m c main_v9 (ix2 r k) = (m ((c : Thread nD τ).loc main_arg10)) (ix3 0 k r) := by
  rw [V_v9]
  exact (flip_at _ _ _ _).trans (flat_at _ _ _ _)

/-- The array `v10` that the launch finds, as the operation that made it. -/
theorem V_v10 (c : Dev nD) : V m c main_v10 = shapeCast S1x1 (m ((c : Thread nD τ).loc main_arg11)) shapeCasts_S1_S1x1 := by
  unfold V V0
  simp only [List.flatten_cons, List.flatten_nil, List.append_nil]
  after_results_simp
  rfl

/-- The array `v10` at an index, as an element of an argument. -/
theorem V_v10_at (c : Dev nD)  : V m c main_v10 (ix2 0 0) = (m ((c : Thread nD τ).loc main_arg11)) (ix1 0) := by
  rw [V_v10]
  exact one_at' _ _

/-- The array `v5` that the launch finds, as the operation that made it. -/
theorem V_v5 (c : Dev nD) : V m c main_v5
    = broadcastInDim S1x256 ![1] bcast_S256_S1x256_1 (concatenate S256 0 [⟨S128, (m ((c : Thread nD τ).loc main_arg8))⟩, ⟨S128, (m ((c : Thread nD τ).loc main_arg8))⟩] concatenates_S128_S128_S256_d0) := by
  unfold V V0
  simp only [List.flatten_cons, List.flatten_nil, List.append_nil]
  after_results_simp
  rfl

/-- The array `v11` that the launch finds, as the operation that made it. -/
theorem V_v11 (c : Dev nD) : V m c main_v11
    = concatenate S2x10000 0 [⟨S1x10000, (m ((c : Thread nD τ).loc main_arg5))⟩, ⟨S1x10000, (m ((c : Thread nD τ).loc main_arg6))⟩] concatenates_S1x10000_S1x10000_S2x10000_d0 := by
  unfold V V0
  simp only [List.flatten_cons, List.flatten_nil, List.append_nil]
  after_results_simp
  rfl

/-- Two vectors joined into one row: the first half is the first vector. -/
theorem join_low {α : Type} (x y : S128.Idx → α) (h : Shape.Concatenates [S128, S128] S256 0) (hb : S256.BroadcastsInDim S1x256 ![1])
    (k : Fin 128) : broadcastInDim S1x256 ![1] hb (concatenate S256 0 [⟨S128, x⟩, ⟨S128, y⟩] h)
      (ix2 0 ⟨k.val, Nat.lt_trans k.isLt (by decide)⟩) = x (ix1 k) := by
  pointwise

/-- Two vectors joined into one row: the second half is the second vector. -/
theorem join_high {α : Type} (x y : S128.Idx → α) (h : Shape.Concatenates [S128, S128] S256 0) (hb : S256.BroadcastsInDim S1x256 ![1])
    (k : Fin 128) : broadcastInDim S1x256 ![1] hb (concatenate S256 0 [⟨S128, x⟩, ⟨S128, y⟩] h)
      (ix2 0 ⟨128 + k.val, Nat.lt_of_lt_of_eq (Nat.add_lt_add_left k.isLt 128) rfl⟩) = y (ix1 k) := by
  pointwise

/-- Two rows stacked: the first row. -/
theorem join_first {α : Type} (x y : S1x10000.Idx → α) (h : Shape.Concatenates [S1x10000, S1x10000] S2x10000 0) (k : Fin 10000) :
    concatenate S2x10000 0 [⟨S1x10000, x⟩, ⟨S1x10000, y⟩] h (ix2 0 k) = x (ix2 0 k) := by
  pointwise

/-- Two rows stacked: the second row. -/
theorem join_second {α : Type} (x y : S1x10000.Idx → α) (h : Shape.Concatenates [S1x10000, S1x10000] S2x10000 0) (k : Fin 10000) :
    concatenate S2x10000 0 [⟨S1x10000, x⟩, ⟨S1x10000, y⟩] h (ix2 1 k) = y (ix2 0 k) := by
  pointwise

/-- Both halves of the doubled bias are the bias: the first half. -/
theorem V_v5_low (c : Dev nD) (k : Fin 128) :
    V m c main_v5 (ix2 0 ⟨k.val, Nat.lt_trans k.isLt (by decide)⟩) = (m ((c : Thread nD τ).loc main_arg8)) (ix1 k) := by
  rw [V_v5]
  exact join_low _ _ _ _ _

/-- The second half of the doubled bias is the bias. -/
theorem V_v5_high (c : Dev nD) (k : Fin 128) :
    V m c main_v5 (ix2 0 ⟨128 + k.val, Nat.lt_of_lt_of_eq (Nat.add_lt_add_left k.isLt 128) rfl⟩) = (m ((c : Thread nD τ).loc main_arg8)) (ix1 k) := by
  rw [V_v5]
  exact join_high _ _ _ _ _

/-- The first row of the samples' biases is the first argument of the two. -/
theorem V_v11_first (c : Dev nD) (k : Fin 10000) : V m c main_v11 (ix2 0 k)
    = (m ((c : Thread nD τ).loc main_arg5)) (ix2 0 k) := by
  rw [V_v11]
  exact join_first _ _ _ _

/-- The second row of the samples' biases is the second argument of the two. -/
theorem V_v11_second (c : Dev nD) (k : Fin 10000) : V m c main_v11 (ix2 1 k)
    = (m ((c : Thread nD τ).loc main_arg6)) (ix2 0 k) := by
  rw [V_v11]
  exact join_second _ _ _ _

/-- Which block of its array window 0 shows at a point. -/
theorem index_0 : ∀ t : Fin cfg0.N, win0_0.index t = ![t.val, 0] := by decide +kernel

/-- Which block of its array window 1 shows at a point. -/
theorem index_1 : ∀ t : Fin cfg0.N, win0_1.index t = ![0, 0] := by decide +kernel

/-- Which block of its array window 2 shows at a point. -/
theorem index_2 : ∀ t : Fin cfg0.N, win0_2.index t = ![0, 0] := by decide +kernel

/-- Which block of its array window 3 shows at a point. -/
theorem index_3 : ∀ t : Fin cfg0.N, win0_3.index t = ![0, 0] := by decide +kernel

/-- Which block of its array window 4 shows at a point. -/
theorem index_4 : ∀ t : Fin cfg0.N, win0_4.index t = ![0, 0] := by decide +kernel

/-- Which block of its array window 5 shows at a point. -/
theorem index_5 : ∀ t : Fin cfg0.N, win0_5.index t = ![0, 0] := by decide +kernel

/-- Which block of its array window 6 shows at a point. -/
theorem index_6 : ∀ t : Fin cfg0.N, win0_6.index t = ![t.val, 0] := by decide +kernel

/-- Which block of its array window 7 shows at a point. -/
theorem index_7 : ∀ t : Fin cfg0.N, win0_7.index t = ![0, 0] := by decide +kernel

/-- Which block of its array window 8 shows at a point. -/
theorem index_8 : ∀ t : Fin cfg0.N, win0_8.index t = ![0, 0] := by decide +kernel

/-- Which block of its array window 9 shows at a point. -/
theorem index_9 : ∀ t : Fin cfg0.N, win0_9.index t = ![0, 0] := by decide +kernel

/-- Which block of its array window 10 shows at a point. -/
theorem index_10 : ∀ t : Fin cfg0.N, win0_10.index t = ![0, 0] := by decide +kernel

/-- The block that window 0 shows at a point, as elements of its array. -/
theorem blk0_at (c : Dev nD) (t : Fin cfg0.N) (r : Fin 400) (k : Fin 10000) :
    iblk m c 0 t (ix2 r k) = V m c main_v2 (ix2 (⟨400 * t.val + r.val, by have := lt25 t; omega⟩) k) := by
  blk_ext [iblk, index_0]

/-- The block that window 1 shows at a point, as elements of its array. -/
theorem blk1_at (c : Dev nD) (t : Fin cfg0.N) (r : Fin 10000) (k : Fin 128) :
    iblk m c 1 t (ix2 r k) = V m c main_v0 (ix2 (r) k) := by
  blk_ext [iblk, index_1]

/-- The block that window 2 shows at a point, as elements of its array. -/
theorem blk2_at (c : Dev nD) (t : Fin cfg0.N) (r : Fin 10000) (k : Fin 128) :
    iblk m c 2 t (ix2 r k) = V m c main_v1 (ix2 (r) k) := by
  blk_ext [iblk, index_2]

/-- The block that window 3 shows at a point, as elements of its array. -/
theorem blk3_at (c : Dev nD) (t : Fin cfg0.N) (r : Fin 128) (k : Fin 128) :
    iblk m c 3 t (ix2 r k) = V m c main_v3 (ix2 (r) k) := by
  blk_ext [iblk, index_3]

/-- The block that window 4 shows at a point, as elements of its array. -/
theorem blk4_at (c : Dev nD) (t : Fin cfg0.N) (r : Fin 1) (k : Fin 256) :
    iblk m c 4 t (ix2 r k) = V m c main_v5 (ix2 (r) k) := by
  blk_ext [iblk, index_4]

/-- The block that window 5 shows at a point, as elements of its array. -/
theorem blk5_at (c : Dev nD) (t : Fin cfg0.N) (r : Fin 1) (k : Fin 1) :
    iblk m c 5 t (ix2 r k) = V m c main_v6 (ix2 (r) k) := by
  blk_ext [iblk, index_5]

/-- The block that window 6 shows at a point, as elements of its array. -/
theorem blk6_at (c : Dev nD) (t : Fin cfg0.N) (r : Fin 400) (k : Fin 1) :
    iblk m c 6 t (ix2 r k) = V m c main_v7 (ix2 (⟨400 * t.val + r.val, by have := lt25 t; omega⟩) k) := by
  blk_ext [iblk, index_6]

/-- The block that window 7 shows at a point, as elements of its array. -/
theorem blk7_at (c : Dev nD) (t : Fin cfg0.N) (r : Fin 128) (k : Fin 128) :
    iblk m c 7 t (ix2 r k) = V m c main_v9 (ix2 (r) k) := by
  blk_ext [iblk, index_7]

/-- The block that window 8 shows at a point, as elements of its array. -/
theorem blk8_at (c : Dev nD) (t : Fin cfg0.N) (r : Fin 1) (k : Fin 1) :
    iblk m c 8 t (ix2 r k) = V m c main_v10 (ix2 (r) k) := by
  blk_ext [iblk, index_8]

/-- The block that window 9 shows at a point, as elements of its array. -/
theorem blk9_at (c : Dev nD) (t : Fin cfg0.N) (r : Fin 2) (k : Fin 10000) :
    iblk m c 9 t (ix2 r k) = V m c main_v11 (ix2 (r) k) := by
  blk_ext [iblk, index_9]

end Cert.Hand

end
-- ==== Proof.Scores.lean ====
/- The scores of a node in plain sums over the extended reals, in the two orders that the programs use. -/
module

public import Idealize.ShloMosaic.Lib.Pointwise
public import Idealize.ShloMosaic.Lib.Pipeline.ValueKit

@[expose] public section

set_option maxRecDepth 16384

noncomputable section

namespace Cert.Hand

open Idealize.ShloMosaic Idealize.ShloMosaic.TcCoe

/-- The activation: a number that is not negative stays, another one is scaled by the slope. -/
def act (a h : EReal) : EReal := if 0 ≤ h then h else a * h

/-- The features: every row of the sequence against every row of the weights. -/
def feats (x : Fin 10000 → Fin 128 → EReal) (W : Fin 128 → Fin 128 → EReal) (j : Fin 10000) (k : Fin 128) : EReal :=
  ∑ d : Fin 128, x j d * W k d

/-- The embeddings: the features gathered along the adjacency, the bias added, then the activation. -/
def emb (x : Fin 10000 → Fin 128 → EReal) (A : Fin 10000 → Fin 10000 → EReal) (W : Fin 128 → Fin 128 → EReal)
    (B : Fin 128 → EReal) (a : EReal) (i : Fin 10000) (k : Fin 128) : EReal :=
  act a (∑ j : Fin 10000, A i j * feats x W j k + B k)

/-- The summary: the logistic function of the weighted mean of the embeddings. -/
def summary (M : Fin 10000 → EReal) (H : Fin 10000 → Fin 128 → EReal) (k : Fin 128) : EReal :=
  Ideal.logistic (Ideal.div (∑ i : Fin 10000, M i * H i k) (∑ i : Fin 10000, M i))

/-- The score of a node, the summary and the bilinear form contracted first. -/
def scoreFormFirst (c : Fin 128 → EReal) (U : Fin 128 → Fin 128 → EReal) (H : Fin 10000 → Fin 128 → EReal) (b s : EReal)
    (n : Fin 10000) : EReal :=
  ∑ i : Fin 128, (∑ j : Fin 128, c j * U i j) * H n i + b + s

/-- The score of a node, the embedding and the bilinear form contracted first. -/
def scoreNodeFirst (c : Fin 128 → EReal) (U : Fin 128 → Fin 128 → EReal) (H : Fin 10000 → Fin 128 → EReal) (b s : EReal)
    (n : Fin 10000) : EReal :=
  ∑ j : Fin 128, c j * ∑ i : Fin 128, U i j * H n i + b + s

end Cert.Hand

end
-- ==== Proof.Payloads.lean ====
/- What the body computes at one point, element by element, over the extended reals. -/
module

public import proofs.«01_k».proof.Proof.Data
public import proofs.«01_k».proof.Proof.Scores

@[expose] public section

set_option maxRecDepth 16384

noncomputable section

namespace Cert.Hand

open Idealize.ShloMosaic Idealize.ShloMosaic.TcCoe
open Cert.KernelIdeal Cert.KernelIdeal.Gen

/-- The features of the first sequence: rows times the transposed weights. -/
theorem pay5_at (w : Vec Ideal S128x128 .f32) (x : Vec Ideal S10000x128 .f32) (r : Fin 10000) (l : Fin 128) :
    k0_pay5 w x (ix2 r l) = ∑ d : Fin 128, x (ix2 r d) * w (ix2 d l) := by
  pointwise [k0_pay5, k0_pay4]

/-- The features of the second sequence, likewise. -/
theorem pay6_at (w : Vec Ideal S128x128 .f32) (x : Vec Ideal S10000x128 .f32) (r : Fin 10000) (l : Fin 128) :
    k0_pay6 w x (ix2 r l) = ∑ d : Fin 128, x (ix2 r d) * w (ix2 d l) := by
  pointwise [k0_pay6, k0_pay4]

/-- A block of embedding rows: adjacency rows times the features, the bias added, then the activation. -/
theorem pay7_at (x : Vec Ideal S400x10000 .f32) (ft : Vec Ideal S10000x256 .bf16) (b : Vec Ideal S1x256 .f32)
    (a : Vec Ideal S1x1 .f32) (r : Fin 400) (l : Fin 256) :
    k0_pay7 x ft b a (ix2 r l) = act (a (ix2 0 0)) (∑ k : Fin 10000, x (ix2 r k) * ft (ix2 k l) + b (ix2 0 l)) := by
  pointwise [k0_pay7, act]

/-- The block is stored as it is. -/
theorem pay8_at (x : Vec Ideal S400x10000 .f32) (ft : Vec Ideal S10000x256 .bf16) (b : Vec Ideal S1x256 .f32)
    (a : Vec Ideal S1x1 .f32) (r : Fin 400) (l : Fin 256) :
    k0_pay8 x ft b a (ix2 r l) = k0_pay7 x ft b a (ix2 r l) := by
  pointwise [k0_pay8]

/-- A block's part of the weighted sum of the first sequence's embedding rows. -/
theorem pay10_at (x : Vec Ideal S400x10000 .f32) (ft : Vec Ideal S10000x256 .bf16) (b : Vec Ideal S1x256 .f32)
    (a : Vec Ideal S1x1 .f32) (w : Vec Ideal S400x1 .f32) (l : Fin 128) :
    k0_pay10 x ft b a w (ix2 0 l)
      = ∑ r : Fin 400, w (ix2 r 0) * k0_pay7 x ft b a (ix2 r ⟨l.val, Nat.lt_trans l.isLt (by decide)⟩) := by
  pointwise [k0_pay10, k0_pay9]

/-- The same part, stored by the first point. -/
theorem pay12_eq (x : Vec Ideal S400x10000 .f32) (ft : Vec Ideal S10000x256 .bf16) (b : Vec Ideal S1x256 .f32)
    (a : Vec Ideal S1x1 .f32) (w : Vec Ideal S400x1 .f32) : k0_pay12 x ft b a w = k0_pay10 x ft b a w := by
  unfold k0_pay12
  exact shapeCast_self _ _

/-- A block's part of the sum of the weights. -/
theorem pay11_at (w : Vec Ideal S400x1 .f32) : k0_pay11 w = ∑ r : Fin 400, w (ix2 r 0) := by
  pointwise [k0_pay11, k0_pay9]
  exact Finset.sum_congr rfl fun r _ => Fin.sum_univ_one _

/-- A later point adds its part to the weighted sum. -/
theorem pay1_at (p s : Vec Ideal S1x128 .f32) (l : Fin 128) : k0_pay1 p s (ix2 0 l) = s (ix2 0 l) + p (ix2 0 l) := by
  pointwise [k0_pay1]

/-- A later point adds its part to the sum of the weights. -/
theorem pay2_eq (p s : EReal) : k0_pay2 (F := Ideal) p s = s + p := by
  pointwise [k0_pay2]

/-- The summary of the first sequence, from the weighted sum and the sum of the weights. -/
def summarise (s : Vec Ideal S1x128 .f32) (n : EReal) (j : Fin 128) : EReal := Ideal.logistic (Ideal.div (s (ix2 0 j)) n)

/-- The scores of the first sequence: the zeros of the second half of the row of weights take nothing from the buffer. -/
theorem pay3_first (s : Vec Ideal S1x128 .f32) (n : EReal) (w : Vec Ideal S128x128 .f32) (h : Vec Ideal S10000x256 .bf16)
    (b : Vec Ideal S1x1 .f32) (sb : Vec Ideal S2x10000 .f32) (r : Fin 10000) :
    k0_pay3 s n w h b sb (ix2 0 r)
      = ∑ i : Fin 128, (∑ j : Fin 128, summarise s n j * w (ix2 j i)) * h (ix2 r ⟨i.val, Nat.lt_trans i.isLt (by decide)⟩)
        + b (ix2 0 0) + sb (ix2 0 r) := by
  pointwise [k0_pay3, summarise]
  simp only [zero_mul, Finset.sum_const_zero, zero_add, add_zero]

/-- The scores of the second sequence: here the first half of the row is zero. -/
theorem pay3_second (s : Vec Ideal S1x128 .f32) (n : EReal) (w : Vec Ideal S128x128 .f32) (h : Vec Ideal S10000x256 .bf16)
    (b : Vec Ideal S1x1 .f32) (sb : Vec Ideal S2x10000 .f32) (r : Fin 10000) :
    k0_pay3 s n w h b sb (ix2 1 r)
      = ∑ i : Fin 128, (∑ j : Fin 128, summarise s n j * w (ix2 j i))
          * h (ix2 r ⟨128 + i.val, Nat.lt_of_lt_of_eq (Nat.add_lt_add_left i.isLt 128) rfl⟩)
        + b (ix2 0 0) + sb (ix2 1 r) := by
  pointwise [k0_pay3, summarise]
  simp only [zero_mul, Finset.sum_const_zero, zero_add, add_zero]

end Cert.Hand

end
-- ==== Proof.KernelScores.lean ====
/- The idealized kernel, element by element, as the plain sums. -/
module

public import proofs.«01_k».proof.Proof.Launched
public import proofs.«01_k».proof.Proof.Payloads
public import proofs.«01_k».proof.Proof.Scores

@[expose] public section

set_option maxRecDepth 16384

noncomputable section

namespace Cert.Hand

open Idealize.ShloMosaic Idealize.ShloMosaic.TcCoe
open Cert.KernelIdeal Cert.KernelIdeal.Gen

variable (m : (ℓ : Loc nD τ sig) → Buf (Elt Ideal) ℓ) (c : Dev nD)

/-- The node that a row of a point's block is. -/
abbrev row (t : Fin cfg0.N) (r : Fin 400) : Fin 10000 := ⟨400 * t.val + r.val, by have := lt25 t; omega⟩

/-- The embeddings of a sequence, from the arguments in memory. -/
def embedded (x : S1x10000x128.Idx → EReal) : Fin 10000 → Fin 128 → EReal :=
  emb (fun j d => x (ix3 0 j d)) (fun i j => (m ((c : Thread nD τ).loc main_arg2)) (ix3 0 i j)) (fun k d => (m ((c : Thread nD τ).loc main_arg7)) (ix2 k d))
    (fun k => (m ((c : Thread nD τ).loc main_arg8)) (ix1 k)) ((m ((c : Thread nD τ).loc main_arg9)) ix0)

/-- The weight of a node, from the arguments in memory. -/
def weight (i : Fin 10000) : EReal := (m ((c : Thread nD τ).loc main_arg4)) (ix2 0 i)

/-- The summary of the first sequence, from the arguments in memory. -/
def summed : Fin 128 → EReal := summary (weight m c) (embedded m c (m ((c : Thread nD τ).loc main_arg0)))

/-- The first sequence's half of the feature buffer. -/
theorem FT_first (j : Fin 10000) (k : Fin 128) :
    FT m c (ix2 j ⟨k.val, Nat.lt_trans k.isLt (by decide)⟩) = feats (fun j d => (m ((c : Thread nD τ).loc main_arg0)) (ix3 0 j d)) (fun k d => (m ((c : Thread nD τ).loc main_arg7)) (ix2 k d)) j k := by
  have h : FT m c (ix2 j ⟨k.val, Nat.lt_trans k.isLt (by decide)⟩) = k0_pay5 (iblk m c 3 (pt 0)) (iblk m c 1 (pt 0)) (ix2 j k) := by
    unfold FT feat halves
    exact dif_pos k.isLt
  rw [h, pay5_at]
  unfold feats
  exact Finset.sum_congr rfl fun d _ => congrArg₂ (· * ·) ((blk1_at m c (pt 0) j d).trans (V_v0_at m c j d))
    ((blk3_at m c (pt 0) d k).trans (V_v3_at m c d k))

/-- The first sequence's half of a block of embedding rows. -/
theorem rows_first (t : Fin cfg0.N) (r : Fin 400) (k : Fin 128) :
    k0_pay7 (iblk m c 0 t) (FT m c) (iblk m c 4 t) (iblk m c 5 t) (ix2 r ⟨k.val, Nat.lt_trans k.isLt (by decide)⟩) = embedded m c (m ((c : Thread nD τ).loc main_arg0)) (row t r) k := by
  rw [pay7_at]
  unfold embedded emb
  refine congrArg₂ act ((blk5_at m c t 0 0).trans (V_v6_at m c)) (congrArg₂ (· + ·) ?_ ((blk4_at m c t 0 _).trans (V_v5_low m c k)))
  exact Finset.sum_congr rfl fun j _ => congrArg₂ (· * ·) ((blk0_at m c t r j).trans (V_v2_at m c (row t r) j)) (FT_first m c j k)

/-- The first sequence's half of the whole embedding buffer. -/
theorem allRows_first (n : Fin 10000) (k : Fin 128) : allRows m c (ix2 n ⟨k.val, Nat.lt_trans k.isLt (by decide)⟩) = embedded m c (m ((c : Thread nD τ).loc main_arg0)) n k := by
  have h : allRows m c (ix2 n ⟨k.val, Nat.lt_trans k.isLt (by decide)⟩) = blockRows m c (pt (n.val / 400)) (ix2 ⟨n.val % 400, Nat.mod_lt _ (by decide)⟩ ⟨k.val, Nat.lt_trans k.isLt (by decide)⟩) := by
    unfold allRows
    exact congrArg _ (funext fun a => match a with | ⟨0, _⟩ => rfl | ⟨1, _⟩ => rfl)
  rw [h]
  unfold blockRows
  rw [pay8_at, rows_first]
  refine congrArg (fun i => embedded m c (m ((c : Thread nD τ).loc main_arg0)) i k) (Fin.ext ?_)
  show 400 * (n.val / 400 % 25) + n.val % 400 = n.val
  omega

/-- The second sequence's half of the feature buffer. -/
theorem FT_second (j : Fin 10000) (k : Fin 128) :
    FT m c (ix2 j ⟨128 + k.val, Nat.lt_of_lt_of_eq (Nat.add_lt_add_left k.isLt 128) rfl⟩) = feats (fun j d => (m ((c : Thread nD τ).loc main_arg1)) (ix3 0 j d)) (fun k d => (m ((c : Thread nD τ).loc main_arg7)) (ix2 k d)) j k := by
  have h : FT m c (ix2 j ⟨128 + k.val, Nat.lt_of_lt_of_eq (Nat.add_lt_add_left k.isLt 128) rfl⟩) = k0_pay6 (iblk m c 3 (pt 0)) (iblk m c 2 (pt 0)) (ix2 j k) := by
    unfold FT feat halves
    refine (dif_neg (Nat.not_lt.2 (Nat.le_add_right 128 k.val))).trans (congrArg _ (funext fun a => ?_))
    match a with
    | ⟨0, _⟩ => rfl
    | ⟨1, _⟩ => exact Fin.ext (Nat.add_sub_cancel_left 128 k.val)
  rw [h, pay6_at]
  unfold feats
  exact Finset.sum_congr rfl fun d _ => congrArg₂ (· * ·) ((blk2_at m c (pt 0) j d).trans (V_v1_at m c j d))
    ((blk3_at m c (pt 0) d k).trans (V_v3_at m c d k))

/-- The second sequence's half of a block of embedding rows. -/
theorem rows_second (t : Fin cfg0.N) (r : Fin 400) (k : Fin 128) :
    k0_pay7 (iblk m c 0 t) (FT m c) (iblk m c 4 t) (iblk m c 5 t) (ix2 r ⟨128 + k.val, Nat.lt_of_lt_of_eq (Nat.add_lt_add_left k.isLt 128) rfl⟩) = embedded m c (m ((c : Thread nD τ).loc main_arg1)) (row t r) k := by
  rw [pay7_at]
  unfold embedded emb
  refine congrArg₂ act ((blk5_at m c t 0 0).trans (V_v6_at m c)) (congrArg₂ (· + ·) ?_ ((blk4_at m c t 0 _).trans (V_v5_high m c k)))
  exact Finset.sum_congr rfl fun j _ => congrArg₂ (· * ·) ((blk0_at m c t r j).trans (V_v2_at m c (row t r) j)) (FT_second m c j k)

/-- The second sequence's half of the whole embedding buffer. -/
theorem allRows_second (n : Fin 10000) (k : Fin 128) : allRows m c (ix2 n ⟨128 + k.val, Nat.lt_of_lt_of_eq (Nat.add_lt_add_left k.isLt 128) rfl⟩) = embedded m c (m ((c : Thread nD τ).loc main_arg1)) n k := by
  have h : allRows m c (ix2 n ⟨128 + k.val, Nat.lt_of_lt_of_eq (Nat.add_lt_add_left k.isLt 128) rfl⟩) = blockRows m c (pt (n.val / 400)) (ix2 ⟨n.val % 400, Nat.mod_lt _ (by decide)⟩ ⟨128 + k.val, Nat.lt_of_lt_of_eq (Nat.add_lt_add_left k.isLt 128) rfl⟩) := by
    unfold allRows
    exact congrArg _ (funext fun a => match a with | ⟨0, _⟩ => rfl | ⟨1, _⟩ => rfl)
  rw [h]
  unfold blockRows
  rw [pay8_at, rows_second]
  refine congrArg (fun i => embedded m c (m ((c : Thread nD τ).loc main_arg1)) i k) (Fin.ext ?_)
  show 400 * (n.val / 400 % 25) + n.val % 400 = n.val
  omega

/-- A point's part of the weighted sum. -/
theorem rowPart_at (t : Fin cfg0.N) (k : Fin 128) :
    rowPart m c t (ix2 0 k) = ∑ r : Fin 400, weight m c (row t r) * embedded m c (m ((c : Thread nD τ).loc main_arg0)) (row t r) k := by
  unfold rowPart
  rw [pay10_at]
  exact Finset.sum_congr rfl fun r _ => congrArg₂ (· * ·) ((blk6_at m c t r 0).trans (V_v7_at m c (row t r))) (rows_first m c t r k)

/-- A point's part of the sum of the weights. -/
theorem cntPart_at (t : Fin cfg0.N) : k0_pay11 (F := Ideal) (iblk m c 6 t) = ∑ r : Fin 400, weight m c (row t r) := by
  refine (pay11_at _).trans ?_
  exact Finset.sum_congr rfl fun r _ => (blk6_at m c t r 0).trans (V_v7_at m c (row t r))

/-- The weighted sum after a point is the sum of the parts so far. -/
theorem rowSum_at (n : ℕ) (k : Fin 128) : rowSum m c n (ix2 0 k) = ∑ t : Fin (n + 1), rowPart m c (pt t.val) (ix2 0 k) := by
  induction n with
  | zero =>
    rw [Fin.sum_univ_one]
    exact congrFun (pay12_eq _ _ _ _ _) _
  | succ n ih =>
    rw [Fin.sum_univ_castSucc]
    exact (pay1_at _ _ _).trans (congrArg₂ (· + ·) ih rfl)

/-- The sum of the weights after a point is the sum of the parts so far. -/
theorem cntSum_at (n : ℕ) : cntSum m c n = ∑ t : Fin (n + 1), (k0_pay11 (F := Ideal) (iblk m c 6 (pt t.val)) : EReal) := by
  induction n with
  | zero => rw [Fin.sum_univ_one]; rfl
  | succ n ih =>
    rw [Fin.sum_univ_castSucc]
    exact (pay2_eq _ _).trans (congrArg₂ (· + ·) ih rfl)

/-- Sums over the points and the rows of their blocks are sums over the nodes. -/
theorem sum_rows (f : Fin 10000 → EReal) : ∑ t : Fin 25, ∑ r : Fin 400, f (row (pt t.val) r) = ∑ i : Fin 10000, f i := by
  refine Fin.sum_mul_add_congr fun t r hl => congrArg f (Fin.ext ?_)
  show 400 * (t.val % 25) + r.val = t.val * 400 + r.val
  omega

/-- The summary that the last point computes. -/
theorem summarise_last (k : Fin 128) : summarise (rowSum m c 24) (cntSum m c 24) k = summed m c k := by
  unfold summarise summed summary
  rw [rowSum_at, cntSum_at]
  simp only [rowPart_at, cntPart_at]
  rw [sum_rows fun i => weight m c i * embedded m c (m ((c : Thread nD τ).loc main_arg0)) i k, sum_rows fun i => weight m c i]

/-- The scores of the first sequence's nodes. -/
theorem scores_first (n : Fin 10000) :
    scores m c (pt 24) (ix2 0 n)
      = scoreFormFirst (summed m c) (fun i j => (m ((c : Thread nD τ).loc main_arg10)) (ix3 0 i j)) (embedded m c (m ((c : Thread nD τ).loc main_arg0))) ((m ((c : Thread nD τ).loc main_arg11)) (ix1 0)) ((m ((c : Thread nD τ).loc main_arg5)) (ix2 0 n)) n := by
  unfold scores
  rw [pay3_first]
  unfold scoreFormFirst
  refine congrArg₂ (· + ·) (congrArg₂ (· + ·) ?_ ((blk8_at m c _ 0 0).trans (V_v10_at m c))) ((blk9_at m c _ 0 n).trans (V_v11_first m c n))
  refine Finset.sum_congr rfl fun i _ => congrArg₂ (· * ·) ?_ (allRows_first m c n i)
  exact Finset.sum_congr rfl fun j _ => congrArg₂ (· * ·) (summarise_last m c j) ((blk7_at m c _ j i).trans (V_v9_at m c j i))

/-- The scores of the second sequence's nodes. -/
theorem scores_second (n : Fin 10000) :
    scores m c (pt 24) (ix2 1 n)
      = scoreFormFirst (summed m c) (fun i j => (m ((c : Thread nD τ).loc main_arg10)) (ix3 0 i j)) (embedded m c (m ((c : Thread nD τ).loc main_arg1))) ((m ((c : Thread nD τ).loc main_arg11)) (ix1 0)) ((m ((c : Thread nD τ).loc main_arg6)) (ix2 0 n)) n := by
  unfold scores
  rw [pay3_second]
  unfold scoreFormFirst
  refine congrArg₂ (· + ·) (congrArg₂ (· + ·) ?_ ((blk8_at m c _ 0 0).trans (V_v10_at m c))) ((blk9_at m c _ 1 n).trans (V_v11_second m c n))
  refine Finset.sum_congr rfl fun i _ => congrArg₂ (· * ·) ?_ (allRows_second m c n i)
  exact Finset.sum_congr rfl fun j _ => congrArg₂ (· * ·) (summarise_last m c j) ((blk7_at m c _ j i).trans (V_v9_at m c j i))

end Cert.Hand

end
-- ==== Proof.Result.lean ====
/- What the launched program leaves in its result array. -/
module

public import proofs.«01_k».proof.Proof.Run
public import proofs.«01_k».proof.Proof.KernelScores

@[expose] public section

set_option maxRecDepth 16384

noncomputable section

namespace Cert.Hand

open Idealize.ShloMosaic Idealize.ShloMosaic.TcCoe
open Cert.KernelIdeal Cert.KernelIdeal.Gen

variable (m : (ℓ : Loc nD τ sig) → Buf (Elt Ideal) ℓ) (c : Dev nD)

/-- The output array ends with the scores of the last point. -/
theorem out_eq : (dats m 0 c).arrAt 10 cfg0.N = scores m c (pt 24) := by
  refine (dats m 0 c).arrAt_eq_of_after_last 10 (pt 24) (by decide +kernel) _ fun j => ?_
  rw [after_10]
  blk_simp
  rfl

/-- No two windows share an array. -/
theorem arr_inj : Function.Injective (Pipeline.arrRef spec0) := by decide

/-- The result array is the output array, its two rows one after the other. -/
theorem result_eq : Pipeline.afterTail₀ cfgs (dats m) 0 (V0 m) [hostOps1] c main_v13
    = shapeCast S1x20000 (scores m c (pt 24)) shapeCasts_S2x10000_S1x20000 := by
  unfold Pipeline.afterTail₀
  simp only [List.flatten_cons, List.flatten_nil, List.append_nil]
  after_results_simp
  rw [← out_eq]
  exact congrArg (fun x => shapeCast S1x20000 x shapeCasts_S2x10000_S1x20000)
    (Pipeline.withArrays_arr (cfgs 0).spec arr_inj c (V0 m c) (fun w => (dats m 0 c).arrAt w (cfgs 0).N) 10)

/-- The first half of the result is the first row. -/
theorem flat_first {α : Type} (x : S2x10000.Idx → α) (h : S2x10000.ShapeCasts S1x20000) (n : Fin 10000) :
    shapeCast S1x20000 x h (ix2 0 ⟨n.val, Nat.lt_trans n.isLt (by decide)⟩) = x (ix2 0 n) := by
  refine shapeCast_apply x h _ _ ?_
  refine (Shape.rowMajor_val_two _).trans (Eq.trans ?_ (Shape.rowMajor_val_two _).symm)
  show 0 * 10000 + n.val = 0 * 20000 + n.val
  omega

/-- The second half of the result is the second row. -/
theorem flat_second {α : Type} (x : S2x10000.Idx → α) (h : S2x10000.ShapeCasts S1x20000) (n : Fin 10000) :
    shapeCast S1x20000 x h (ix2 0 ⟨10000 + n.val, Nat.lt_of_lt_of_eq (Nat.add_lt_add_left n.isLt 10000) rfl⟩) = x (ix2 1 n) := by
  refine shapeCast_apply x h _ _ ?_
  refine (Shape.rowMajor_val_two _).trans (Eq.trans ?_ (Shape.rowMajor_val_two _).symm)
  show 1 * 10000 + n.val = 0 * 20000 + (10000 + n.val)
  omega

/-- The program ends with the scores in its result array and its arguments as they were. -/
theorem main_result (ρ : Dev nD → PrngReg) : θ_run defs (onTc (τ := τ) (main (F := Ideal))) ⟨m, fun _ => 0, ρ⟩
    (fun r => ∀ c : Dev nD, r.2.mem ((c : Thread nD τ).loc main_v13)
      = shapeCast S1x20000 (scores m c (pt 24)) shapeCasts_S2x10000_S1x20000) :=
  (θ_run defs _ _).mono (fun r h c => ((h c).2 main_v13 (Pipeline.mem_restRefs_of main_v13 (by decide) (by decide))).trans (result_eq m c)) (run_main m ρ)

end Cert.Hand

end
-- ==== Proof.RefScores.lean ====
/- The reference, element by element, as the plain sums. -/
module

public import proofs.«01_k».proof.Proof.Gen.ReferenceIdeal.Read
public import proofs.«01_k».proof.Proof.Scores

@[expose] public section

set_option maxRecDepth 16384

noncomputable section

namespace Cert.Hand

open Idealize.ShloMosaic Idealize.ShloMosaic.TcCoe

open Cert.ReferenceIdeal.Read

/-- A sequence of feature rows. -/
abbrev Seqs := (⟨Cert.ReferenceIdeal.S1x10000x128, .f32⟩ : BufTy).Contents (Elt Ideal)
/-- The adjacency. -/
abbrev Adjs := (⟨Cert.ReferenceIdeal.S1x10000x10000, .f32⟩ : BufTy).Contents (Elt Ideal)
/-- The weights of the features. -/
abbrev Wgts := (⟨Cert.ReferenceIdeal.S128x128, .f32⟩ : BufTy).Contents (Elt Ideal)
/-- The bilinear form. -/
abbrev Forms := (⟨Cert.ReferenceIdeal.S1x128x128, .f32⟩ : BufTy).Contents (Elt Ideal)
/-- The bias of the embedding. -/
abbrev Biases := (⟨Cert.ReferenceIdeal.S128, .f32⟩ : BufTy).Contents (Elt Ideal)
/-- The slope. -/
abbrev Slopes := (⟨Cert.ReferenceIdeal.S_, .f32⟩ : BufTy).Contents (Elt Ideal)
/-- One number per node: the mask, or a bias of the samples. -/
abbrev Nodes := (⟨Cert.ReferenceIdeal.S1x10000, .f32⟩ : BufTy).Contents (Elt Ideal)
/-- The bias of the bilinear form. -/
abbrev Ones := (⟨Cert.ReferenceIdeal.S1, .f32⟩ : BufTy).Contents (Elt Ideal)

variable (x0 x1 : Seqs) (x2 : Adjs) (x4 x5 x6 : Nodes) (x7 : Wgts) (x8 : Biases) (x9 : Slopes) (x10 : Forms) (x11 : Ones)

/-- The embeddings of a sequence, from the arrays. -/
abbrev embOf (x : Seqs) : Fin 10000 → Fin 128 → EReal :=
  emb (fun j d => x (ix3 0 j d)) (fun i j => x2 (ix3 0 i j)) (fun k d => x7 (ix2 k d)) (fun k => x8 (ix1 k)) (x9 ix0)

/-- The summary of the first sequence, from the arrays. -/
abbrev sumOf : Fin 128 → EReal := summary (fun i => x4 (ix2 0 i)) (embOf x2 x7 x8 x9 x0)

/-- The reference's features of the first sequence. -/
theorem ref_feats (j : Fin 10000) (k : Fin 128) :
    val_main_v0 x0 x7 (ix3 0 j k) = feats (fun j d => x0 (ix3 0 j d)) (fun k d => x7 (ix2 k d)) j k := by
  pointwise [val_main_v0, feats]

/-- The reference's embeddings of the first sequence. -/
theorem ref_emb (j : Fin 10000) (k : Fin 128) : val_main_v9 x0 x2 x7 x8 x9 (ix3 0 j k) = embOf x2 x7 x8 x9 x0 j k := by
  pointwise [val_main_v9, val_main_v8, val_main_v7, val_main_v6, val_main_v5, val_main_v4, val_main_v3, val_main_v2,
    val_main_v1, val_main_cst]
  simp only [ref_feats, emb, act]

/-- The reference's features of the second sequence. -/
theorem ref_feats' (j : Fin 10000) (k : Fin 128) :
    val_main_v23 x1 x7 (ix3 0 j k) = feats (fun j d => x1 (ix3 0 j d)) (fun k d => x7 (ix2 k d)) j k := by
  pointwise [val_main_v23, feats]

/-- The reference's embeddings of the second sequence. -/
theorem ref_emb' (j : Fin 10000) (k : Fin 128) : val_main_v32 x1 x2 x7 x8 x9 (ix3 0 j k) = embOf x2 x7 x8 x9 x1 j k := by
  pointwise [val_main_v32, val_main_v31, val_main_v30, val_main_v29, val_main_v28, val_main_v27, val_main_v26, val_main_v25,
    val_main_v24, val_main_cst_4]
  simp only [ref_feats', emb, act]

/-- The reference's summary. -/
theorem ref_sum (k : Fin 128) : val_main_v22 x0 x2 x4 x7 x8 x9 (ix2 0 k) = sumOf x0 x2 x4 x7 x8 x9 k := by
  pointwise [val_main_v22, val_main_v21, val_main_v20, val_main_v19, val_main_v18, val_main_v17, val_main_v16, val_main_v15,
    val_main_v14, val_main_v13, val_main_v12, val_main_v11, val_main_v10, val_main_cst_0, val_main_cst_1, val_main_cst_2,
    val_main_cst_3]
  simp only [ref_emb, summary, Ideal.logistic, Fin.sum_univ_one, mul_comm (x4 _)]

/-- The reference's scores of the first sequence's nodes. -/
theorem ref_first (n : Fin 10000) :
    val_main_v49 x0 x1 x2 x4 x5 x6 x7 x8 x9 x10 x11 (ix2 0 ⟨n.val, Nat.lt_trans n.isLt (by decide)⟩)
      = scoreNodeFirst (sumOf x0 x2 x4 x7 x8 x9) (fun i j => x10 (ix3 0 i j)) (embOf x2 x7 x8 x9 x0) (x11 (ix1 0)) (x5 (ix2 0 n)) n := by
  pointwise [val_main_v49, val_main_v47, val_main_v40, val_main_v39, val_main_v38, val_main_v37, val_main_v36, val_main_v35,
    val_main_v34, val_main_v33]
  simp only [ref_emb, ref_sum, scoreNodeFirst]

/-- The reference's scores of the second sequence's nodes. -/
theorem ref_second (n : Fin 10000) :
    val_main_v49 x0 x1 x2 x4 x5 x6 x7 x8 x9 x10 x11
        (ix2 0 ⟨10000 + n.val, Nat.lt_of_lt_of_eq (Nat.add_lt_add_left n.isLt 10000) rfl⟩)
      = scoreNodeFirst (sumOf x0 x2 x4 x7 x8 x9) (fun i j => x10 (ix3 0 i j)) (embOf x2 x7 x8 x9 x1) (x11 (ix1 0)) (x6 (ix2 0 n)) n := by
  pointwise [val_main_v49, val_main_v48, val_main_v46, val_main_v45, val_main_v44, val_main_v43, val_main_v42, val_main_v41,
    val_main_v34, val_main_v33]
  simp only [ref_emb', ref_sum, scoreNodeFirst]

end Cert.Hand

end
-- ==== Proof.Exchange.lean ====
/- The two orders of the bilinear form agree where every number is real. -/
module

public import proofs.«01_k».proof.Proof.Scores

@[expose] public section

set_option maxRecDepth 16384

noncomputable section

namespace Cert.Hand

open Idealize.ShloMosaic Idealize.ShloMosaic.TcCoe

/-- A number of the extended line that is real. -/
def IsReal (x : EReal) : Prop := ∃ r : ℝ, x = (r : EReal)

/-- A sum of two real numbers is real. -/
theorem IsReal.add {x y : EReal} : IsReal x → IsReal y → IsReal (x + y) := by
  rintro ⟨a, rfl⟩ ⟨b, rfl⟩
  exact ⟨a + b, (EReal.coe_add a b).symm⟩

/-- A product of two real numbers is real. -/
theorem IsReal.mul {x y : EReal} : IsReal x → IsReal y → IsReal (x * y) := by
  rintro ⟨a, rfl⟩ ⟨b, rfl⟩
  exact ⟨a * b, (EReal.coe_mul a b).symm⟩

/-- A finite sum of real numbers may be taken on either side of the embedding. -/
theorem coe_sum_real {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- A finite sum of real numbers is real. -/
theorem IsReal.sum {ι : Type} [Fintype ι] {f : ι → EReal} (h : ∀ i, IsReal (f i)) : IsReal (∑ i, f i) := by
  choose g hg using h
  exact ⟨∑ i, g i, (Finset.sum_congr rfl fun i _ => hg i).trans (coe_sum_real g).symm⟩

/-- The activation of a real number with a real slope is real. -/
theorem IsReal.act {a h : EReal} (ha : IsReal a) (hh : IsReal h) : IsReal (act a h) := by
  unfold Cert.Hand.act
  split
  · exact hh
  · exact ha.mul hh

/-- The logistic function is real everywhere, at the two infinities too. -/
theorem isReal_logistic (x : EReal) : IsReal (Ideal.logistic x) := by
  induction x with
  | bot => exact ⟨0, Ideal.logistic_bot⟩
  | coe r => exact ⟨_, Ideal.logistic_coe r⟩
  | top => exact ⟨1, Ideal.logistic_top⟩

/-- Embeddings made of real numbers are real. -/
theorem isReal_emb {x : Fin 10000 → Fin 128 → EReal} {A : Fin 10000 → Fin 10000 → EReal} {W : Fin 128 → Fin 128 → EReal}
    {B : Fin 128 → EReal} {a : EReal} (hx : ∀ i j, IsReal (x i j)) (hA : ∀ i j, IsReal (A i j)) (hW : ∀ i j, IsReal (W i j))
    (hB : ∀ i, IsReal (B i)) (ha : IsReal a) (i : Fin 10000) (k : Fin 128) : IsReal (emb x A W B a i k) :=
  ha.act ((IsReal.sum fun j => (hA i j).mul (IsReal.sum fun d => (hx j d).mul (hW k d))).add (hB k))

/-- Where the summary, the bilinear form and the embeddings are real, the two orders of the score agree; the two biases
    may be anything. -/
theorem scores_agree {c : Fin 128 → EReal} {U : Fin 128 → Fin 128 → EReal} {H : Fin 10000 → Fin 128 → EReal}
    (hc : ∀ j, IsReal (c j)) (hU : ∀ i j, IsReal (U i j)) (hH : ∀ n i, IsReal (H n i)) (b s : EReal) (n : Fin 10000) :
    scoreFormFirst c U H b s n = scoreNodeFirst c U H b s n := by
  choose c' hc using hc
  choose U' hU using hU
  choose H' hH using hH
  unfold scoreFormFirst scoreNodeFirst
  refine congrArg (· + b + s) ?_
  simp only [hc, hU, hH, ← EReal.coe_mul, ← coe_sum_real]
  refine congrArg _ ?_
  simp only [Finset.sum_mul, Finset.mul_sum]
  rw [Finset.sum_comm]
  exact Finset.sum_congr rfl fun j _ => Finset.sum_congr rfl fun i _ => mul_assoc _ _ _

end Cert.Hand

end
-- ==== Proof.Finite.lean ====
/- What the precondition says: every element of the arrays it names is real. -/
module

public import proofs.«01_k».proof.Pre_finite
public import proofs.«01_k».proof.Proof.Exchange

@[expose] public section

set_option maxRecDepth 16384

noncomputable section

namespace Cert.Hand

open Idealize.ShloMosaic Idealize.ShloMosaic.TcCoe

/-- The places of the precondition's shapes are as it needs them. -/
theorem pre_facts : Cert.Pre_finite.Facts := by constructor <;> decide

/-- A number whose absolute value is below the word for plus infinity is real. -/
theorem isReal_of_lt (x : EReal)
    (h : FloatOps.cmpf (F := Ideal) (φ := .f32) .olt (FloatOps.absf x) (FloatOps.ofBits .f32 0x7F800000#32) = 1#1) : IsReal x := by
  have ht : (FloatOps.ofBits (F := Ideal) .f32 0x7F800000#32 : EReal) = ⊤ := by
    simp [Ideal.ofBits, Ideal.ieee]
  rw [ht] at h
  induction x with
  | coe r => exact ⟨r, rfl⟩
  | bot => exact absurd h (by simp [FloatOps.cmpf, FloatOps.absf, Ideal.cmp])
  | top => exact absurd h (by simp [FloatOps.cmpf, FloatOps.absf, Ideal.cmp])

variable [hPre_finite : Cert.Pre_finite.Facts]
variable {a0 a1 : FVec Ideal Cert.Pre_finite.S1x10000x128 .f32} {a2 : FVec Ideal Cert.Pre_finite.S1x10000x10000 .f32}
  {a3 : IVec Cert.Pre_finite.S_ 32} {a4 a5 a6 : FVec Ideal Cert.Pre_finite.S1x10000 .f32}
  {a7 : FVec Ideal Cert.Pre_finite.S128x128 .f32} {a8 : FVec Ideal Cert.Pre_finite.S128 .f32} {a9 : FVec Ideal Cert.Pre_finite.S_ .f32}
  {a10 : FVec Ideal Cert.Pre_finite.S1x128x128 .f32} {a11 : FVec Ideal Cert.Pre_finite.S1 .f32}

/-- Under the precondition the first sequence is real. -/
theorem real_a0 (h : (Cert.Pre_finite.fn (F := Ideal) a0 a1 a2 a3 a4 a5 a6 a7 a8 a9 a10 a11).1 = fun _ => 1#1) (i) :
    IsReal (a0 i) := isReal_of_lt _ (congrFun h i)

/-- Under the precondition the second sequence is real. -/
theorem real_a1 (h : (Cert.Pre_finite.fn (F := Ideal) a0 a1 a2 a3 a4 a5 a6 a7 a8 a9 a10 a11).2.1 = fun _ => 1#1) (i) :
    IsReal (a1 i) := isReal_of_lt _ (congrFun h i)

/-- Under the precondition the adjacency is real. -/
theorem real_a2 (h : (Cert.Pre_finite.fn (F := Ideal) a0 a1 a2 a3 a4 a5 a6 a7 a8 a9 a10 a11).2.2.1 = fun _ => 1#1) (i) :
    IsReal (a2 i) := isReal_of_lt _ (congrFun h i)

/-- Under the precondition the weights are real. -/
theorem real_a7 (h : (Cert.Pre_finite.fn (F := Ideal) a0 a1 a2 a3 a4 a5 a6 a7 a8 a9 a10 a11).2.2.2.1 = fun _ => 1#1) (i) :
    IsReal (a7 i) := isReal_of_lt _ (congrFun h i)

/-- Under the precondition the bias is real. -/
theorem real_a8 (h : (Cert.Pre_finite.fn (F := Ideal) a0 a1 a2 a3 a4 a5 a6 a7 a8 a9 a10 a11).2.2.2.2.1 = fun _ => 1#1) (i) :
    IsReal (a8 i) := isReal_of_lt _ (congrFun h i)

/-- Under the precondition the slope is real. -/
theorem real_a9 (h : (Cert.Pre_finite.fn (F := Ideal) a0 a1 a2 a3 a4 a5 a6 a7 a8 a9 a10 a11).2.2.2.2.2.1 = fun _ => 1#1) (i) :
    IsReal (a9 i) := isReal_of_lt _ (congrFun h i)

/-- Under the precondition the bilinear form is real. -/
theorem real_a10 (h : (Cert.Pre_finite.fn (F := Ideal) a0 a1 a2 a3 a4 a5 a6 a7 a8 a9 a10 a11).2.2.2.2.2.2 = fun _ => 1#1) (i) :
    IsReal (a10 i) := isReal_of_lt _ (congrFun h i)

end Cert.Hand

end
-- ==== Proof.Algebraic.lean ====
/- The idealized kernel computes what the idealized reference computes. -/
module

public import proofs.«01_k».proof.Defs
public import proofs.«01_k».proof.Proof.Result
public import proofs.«01_k».proof.Proof.RefScores
public import proofs.«01_k».proof.Proof.Finite
public import proofs.«01_k».proof.Proof.Gen.ReferenceIdeal.Run

@[expose] public section

set_option maxRecDepth 16384

noncomputable section

namespace Cert.Hand

open Idealize.ShloMosaic Idealize.ShloMosaic.TcCoe Idealize.SL.Sem
open Cert.KernelIdeal Cert.KernelIdeal.Gen

attribute [local instance] pre_facts

/-- An index of the result is its place in the only row. -/
theorem at_row (q : S1x20000.Idx) (k : Fin 20000) (hk : (q 1).val = k.val) : q = ix2 (0 : Fin 1) k :=
  funext fun a => match a with
    | ⟨0, _⟩ => Fin.ext (Nat.lt_one_iff.1 (q 0).isLt)
    | ⟨1, _⟩ => Fin.ext hk

section
variable (m : (ℓ : Loc nD τ sig) → Buf (Elt Ideal) ℓ) (c : Dev nD) (h : Cert.Pre_KernelIdeal_finite m)
include h

/-- Under the precondition the embeddings of a real sequence are real. -/
theorem isReal_embedded (x : S1x10000x128.Idx → EReal) (hx : ∀ i, IsReal (x i)) (i : Fin 10000) (k : Fin 128) :
    IsReal (embedded m c x i k) :=
  isReal_emb (fun i j => hx _) (fun i j => real_a2 (h c).2.2.1 _) (fun i j => real_a7 (h c).2.2.2.1 _)
    (fun i => real_a8 (h c).2.2.2.2.1 _) (real_a9 (h c).2.2.2.2.2.1 _) i k

/-- The first half of the two results agrees. -/
theorem agree_first (n : Fin 10000) :
    shapeCast S1x20000 (scores m c (pt 24)) shapeCasts_S2x10000_S1x20000 (ix2 0 ⟨n.val, Nat.lt_trans n.isLt (by decide)⟩)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 0 ⟨n.val, Nat.lt_trans n.isLt (by decide)⟩) := by
  refine (flat_first _ _ n).trans ((scores_first m c n).trans (Eq.trans ?_ (ref_first _ _ _ _ _ _ _ _ _ _ _ n).symm))
  exact scores_agree (fun j => isReal_logistic _) (fun i j => real_a10 (h c).2.2.2.2.2.2 _)
    (fun i k => isReal_embedded m c h (m ((c.tc : Thread nD τ).loc main_arg0)) (fun i => real_a0 (h c).1 i) i k) _ _ n

/-- The second half of the two results agrees. -/
theorem agree_second (n : Fin 10000) :
    shapeCast S1x20000 (scores m c (pt 24)) shapeCasts_S2x10000_S1x20000 (ix2 0 ⟨10000 + n.val, Nat.lt_of_lt_of_eq (Nat.add_lt_add_left n.isLt 10000) rfl⟩)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 0 ⟨10000 + n.val, Nat.lt_of_lt_of_eq (Nat.add_lt_add_left n.isLt 10000) rfl⟩) := by
  refine (flat_second _ _ n).trans ((scores_second m c n).trans (Eq.trans ?_ (ref_second _ _ _ _ _ _ _ _ _ _ _ n).symm))
  exact scores_agree (fun j => isReal_logistic _) (fun i j => real_a10 (h c).2.2.2.2.2.2 _)
    (fun i k => isReal_embedded m c h (m ((c.tc : Thread nD τ).loc main_arg1)) (fun i => real_a1 (h c).2.1 i) i k) _ _ n

/-- The two results agree. -/
theorem agree : shapeCast S1x20000 (scores m c (pt 24)) shapeCasts_S2x10000_S1x20000
    = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext q
  have hq : (q 1).val < 20000 := (q 1).isLt
  by_cases hn : (q 1).val < 10000
  · rw [at_row q ⟨(q 1).val, hq⟩ rfl]
    exact agree_first m c h ⟨(q 1).val, hn⟩
  · have hs : (q 1).val = 10000 + ((q 1).val - 10000) := by omega
    rw [at_row q ⟨10000 + ((q 1).val - 10000), lt_of_eq_of_lt hs.symm hq⟩ hs]
    exact agree_second m c h ⟨(q 1).val - 10000, by omega⟩

end

/-- Two properties of a run's end hold together. -/
theorem θ_run_both {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

/-- The idealized kernel and the idealized reference compute the same result, on arguments whose arrays named by the
    precondition are real. -/
theorem algebraic : Cert.algebraic_KernelIdeal_ReferenceIdeal_pre_finite := by
  intro m ρ m' ρ' hpre hargs
  refine ⟨fun c => shapeCast S1x20000 (scores m c (pt 24)) shapeCasts_S2x10000_S1x20000, ?_, ?_⟩
  · exact (θ_run defs _ _).mono (fun r h c => ⟨h.1 c, h.2 c⟩)
      (θ_run_both (main_result m ρ) (Cert.KernelIdeal.Gen.frame_of m ρ (dats m) (A_eq m) (run_main m ρ)))
  · refine (θ_run _ _ _).mono (fun r h c => ⟨(h c).1.trans ?_, (h c).2⟩) (Cert.ReferenceIdeal.Value.run m' ρ')
    obtain ⟨e0, e1, e2, e3, e4, e5, e6, e7, e8, e9, e10, e11⟩ := hargs c
    rw [Cert.ReferenceIdeal.Read.val_main_v49_eq, e0, e1, e2, e4, e5, e6, e7, e8, e9, e10, e11]
    exact (agree m c hpre).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims; the two frames restated under the precondition are the frames without it. -/
theorem claim : Cert.Claim :=
  ⟨Cert.Kernel.Gen.facts, Cert.KernelIdeal.Gen.facts, Cert.ReferenceIdeal.Gen.facts, Cert.Hand.pre_facts,
    Cert.Hand.kernel_frame, Cert.Hand.kernelIdeal_frame, fun m ρ _ => Cert.Hand.kernelIdeal_frame m ρ trivial,
    Cert.Hand.referenceIdeal_frame, fun m ρ _ => Cert.Hand.referenceIdeal_frame m ρ trivial, trivial,
    Cert.Hand.algebraic⟩

end Cert.Proof

end
